-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvMix (m : (ℓ : Loc Cert.RwkvMix.nD Cert.RwkvMix.τ Cert.RwkvMix.sig) → Buf (Elt Bits) ℓ) : Prop :=
  True

def Pre_RwkvMixIdeal (m : (ℓ : Loc Cert.RwkvMixIdeal.nD Cert.RwkvMixIdeal.τ Cert.RwkvMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8)
      ∧ r.2.mem ((c.tc : Thread Cert.Rglru.nD Cert.Rglru.τ).loc Cert.Rglru.main_arg9) = m ((c.tc : Thread Cert.Rglru.nD Cert.Rglru.τ).loc Cert.Rglru.main_arg9)
      ∧ r.2.mem ((c.tc : Thread Cert.Rglru.nD Cert.Rglru.τ).loc Cert.Rglru.main_arg10) = m ((c.tc : Thread Cert.Rglru.nD Cert.Rglru.τ).loc Cert.Rglru.main_arg10))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
      ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
      ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvMix [hRwkvMix : Cert.RwkvMix.Facts] : Prop :=
  ∀ (m : (ℓ : Loc Cert.RwkvMix.nD Cert.RwkvMix.τ Cert.RwkvMix.sig) → Buf (Elt Bits) ℓ) (g : Dev Cert.RwkvMix.nD → PrngReg), Pre_RwkvMix m →
    θ_run (Cert.RwkvMix.defs (F := Bits)) (onTc (τ := Cert.RwkvMix.τ) (Cert.RwkvMix.main (F := Bits))) ⟨m, fun _ => 0, g⟩ (fun r => (∀ c : Dev Cert.RwkvMix.nD,
      r.2.mem ((c.tc : Thread Cert.RwkvMix.nD Cert.RwkvMix.τ).loc Cert.RwkvMix.main_arg0) = m ((c.tc : Thread Cert.RwkvMix.nD Cert.RwkvMix.τ).loc Cert.RwkvMix.main_arg0)
      ∧ r.2.mem ((c.tc : Thread Cert.RwkvMix.nD Cert.RwkvMix.τ).loc Cert.RwkvMix.main_arg1) = m ((c.tc : Thread Cert.RwkvMix.nD Cert.RwkvMix.τ).loc Cert.RwkvMix.main_arg1)
      ∧ r.2.mem ((c.tc : Thread Cert.RwkvMix.nD Cert.RwkvMix.τ).loc Cert.RwkvMix.main_arg2) = m ((c.tc : Thread Cert.RwkvMix.nD Cert.RwkvMix.τ).loc Cert.RwkvMix.main_arg2)
      ∧ r.2.mem ((c.tc : Thread Cert.RwkvMix.nD Cert.RwkvMix.τ).loc Cert.RwkvMix.main_arg3) = m ((c.tc : Thread Cert.RwkvMix.nD Cert.RwkvMix.τ).loc Cert.RwkvMix.main_arg3)
      ∧ r.2.mem ((c.tc : Thread Cert.RwkvMix.nD Cert.RwkvMix.τ).loc Cert.RwkvMix.main_arg4) = m ((c.tc : Thread Cert.RwkvMix.nD Cert.RwkvMix.τ).loc Cert.RwkvMix.main_arg4)
      ∧ r.2.mem ((c.tc : Thread Cert.RwkvMix.nD Cert.RwkvMix.τ).loc Cert.RwkvMix.main_arg5) = m ((c.tc : Thread Cert.RwkvMix.nD Cert.RwkvMix.τ).loc Cert.RwkvMix.main_arg5)
      ∧ r.2.mem ((c.tc : Thread Cert.RwkvMix.nD Cert.RwkvMix.τ).loc Cert.RwkvMix.main_arg6) = m ((c.tc : Thread Cert.RwkvMix.nD Cert.RwkvMix.τ).loc Cert.RwkvMix.main_arg6)
      ∧ r.2.mem ((c.tc : Thread Cert.RwkvMix.nD Cert.RwkvMix.τ).loc Cert.RwkvMix.main_arg7) = m ((c.tc : Thread Cert.RwkvMix.nD Cert.RwkvMix.τ).loc Cert.RwkvMix.main_arg7)
      ∧ r.2.mem ((c.tc : Thread Cert.RwkvMix.nD Cert.RwkvMix.τ).loc Cert.RwkvMix.main_arg8) = m ((c.tc : Thread Cert.RwkvMix.nD Cert.RwkvMix.τ).loc Cert.RwkvMix.main_arg8)
      ∧ r.2.mem ((c.tc : Thread Cert.RwkvMix.nD Cert.RwkvMix.τ).loc Cert.RwkvMix.main_arg9) = m ((c.tc : Thread Cert.RwkvMix.nD Cert.RwkvMix.τ).loc Cert.RwkvMix.main_arg9)
      ∧ r.2.mem ((c.tc : Thread Cert.RwkvMix.nD Cert.RwkvMix.τ).loc Cert.RwkvMix.main_arg10) = m ((c.tc : Thread Cert.RwkvMix.nD Cert.RwkvMix.τ).loc Cert.RwkvMix.main_arg10)
      ∧ r.2.mem ((c.tc : Thread Cert.RwkvMix.nD Cert.RwkvMix.τ).loc Cert.RwkvMix.main_arg11) = m ((c.tc : Thread Cert.RwkvMix.nD Cert.RwkvMix.τ).loc Cert.RwkvMix.main_arg11)
      ∧ r.2.mem ((c.tc : Thread Cert.RwkvMix.nD Cert.RwkvMix.τ).loc Cert.RwkvMix.main_arg12) = m ((c.tc : Thread Cert.RwkvMix.nD Cert.RwkvMix.τ).loc Cert.RwkvMix.main_arg12)
      ∧ r.2.mem ((c.tc : Thread Cert.RwkvMix.nD Cert.RwkvMix.τ).loc Cert.RwkvMix.main_arg13) = m ((c.tc : Thread Cert.RwkvMix.nD Cert.RwkvMix.τ).loc Cert.RwkvMix.main_arg13)
      ∧ r.2.mem ((c.tc : Thread Cert.RwkvMix.nD Cert.RwkvMix.τ).loc Cert.RwkvMix.main_arg14) = m ((c.tc : Thread Cert.RwkvMix.nD Cert.RwkvMix.τ).loc Cert.RwkvMix.main_arg14)
      ∧ r.2.mem ((c.tc : Thread Cert.RwkvMix.nD Cert.RwkvMix.τ).loc Cert.RwkvMix.main_arg15) = m ((c.tc : Thread Cert.RwkvMix.nD Cert.RwkvMix.τ).loc Cert.RwkvMix.main_arg15))
      ∧ r.2.sem = fun _ => 0)

def quiescent_RwkvMixIdeal [hRwkvMixIdeal : Cert.RwkvMixIdeal.Facts] : Prop :=
  ∀ (m : (ℓ : Loc Cert.RwkvMixIdeal.nD Cert.RwkvMixIdeal.τ Cert.RwkvMixIdeal.sig) → Buf (Elt Ideal) ℓ) (g : Dev Cert.RwkvMixIdeal.nD → PrngReg), Pre_RwkvMixIdeal m →
    θ_run (Cert.RwkvMixIdeal.defs (F := Ideal)) (onTc (τ := Cert.RwkvMixIdeal.τ) (Cert.RwkvMixIdeal.main (F := Ideal))) ⟨m, fun _ => 0, g⟩ (fun r => (∀ c : Dev Cert.RwkvMixIdeal.nD,
      r.2.mem ((c.tc : Thread Cert.RwkvMixIdeal.nD Cert.RwkvMixIdeal.τ).loc Cert.RwkvMixIdeal.main_arg0) = m ((c.tc : Thread Cert.RwkvMixIdeal.nD Cert.RwkvMixIdeal.τ).loc Cert.RwkvMixIdeal.main_arg0)
      ∧ r.2.mem ((c.tc : Thread Cert.RwkvMixIdeal.nD Cert.RwkvMixIdeal.τ).loc Cert.RwkvMixIdeal.main_arg1) = m ((c.tc : Thread Cert.RwkvMixIdeal.nD Cert.RwkvMixIdeal.τ).loc Cert.RwkvMixIdeal.main_arg1)
      ∧ r.2.mem ((c.tc : Thread Cert.RwkvMixIdeal.nD Cert.RwkvMixIdeal.τ).loc Cert.RwkvMixIdeal.main_arg2) = m ((c.tc : Thread Cert.RwkvMixIdeal.nD Cert.RwkvMixIdeal.τ).loc Cert.RwkvMixIdeal.main_arg2)
      ∧ r.2.mem ((c.tc : Thread Cert.RwkvMixIdeal.nD Cert.RwkvMixIdeal.τ).loc Cert.RwkvMixIdeal.main_arg3) = m ((c.tc : Thread Cert.RwkvMixIdeal.nD Cert.RwkvMixIdeal.τ).loc Cert.RwkvMixIdeal.main_arg3)
      ∧ r.2.mem ((c.tc : Thread Cert.RwkvMixIdeal.nD Cert.RwkvMixIdeal.τ).loc Cert.RwkvMixIdeal.main_arg4) = m ((c.tc : Thread Cert.RwkvMixIdeal.nD Cert.RwkvMixIdeal.τ).loc Cert.RwkvMixIdeal.main_arg4)
      ∧ r.2.mem ((c.tc : Thread Cert.RwkvMixIdeal.nD Cert.RwkvMixIdeal.τ).loc Cert.RwkvMixIdeal.main_arg5) = m ((c.tc : Thread Cert.RwkvMixIdeal.nD Cert.RwkvMixIdeal.τ).loc Cert.RwkvMixIdeal.main_arg5)
      ∧ r.2.mem ((c.tc : Thread Cert.RwkvMixIdeal.nD Cert.RwkvMixIdeal.τ).loc Cert.RwkvMixIdeal.main_arg6) = m ((c.tc : Thread Cert.RwkvMixIdeal.nD Cert.RwkvMixIdeal.τ).loc Cert.RwkvMixIdeal.main_arg6)
      ∧ r.2.mem ((c.tc : Thread Cert.RwkvMixIdeal.nD Cert.RwkvMixIdeal.τ).loc Cert.RwkvMixIdeal.main_arg7) = m ((c.tc : Thread Cert.RwkvMixIdeal.nD Cert.RwkvMixIdeal.τ).loc Cert.RwkvMixIdeal.main_arg7)
      ∧ r.2.mem ((c.tc : Thread Cert.RwkvMixIdeal.nD Cert.RwkvMixIdeal.τ).loc Cert.RwkvMixIdeal.main_arg8) = m ((c.tc : Thread Cert.RwkvMixIdeal.nD Cert.RwkvMixIdeal.τ).loc Cert.RwkvMixIdeal.main_arg8)
      ∧ r.2.mem ((c.tc : Thread Cert.RwkvMixIdeal.nD Cert.RwkvMixIdeal.τ).loc Cert.RwkvMixIdeal.main_arg9) = m ((c.tc : Thread Cert.RwkvMixIdeal.nD Cert.RwkvMixIdeal.τ).loc Cert.RwkvMixIdeal.main_arg9)
      ∧ r.2.mem ((c.tc : Thread Cert.RwkvMixIdeal.nD Cert.RwkvMixIdeal.τ).loc Cert.RwkvMixIdeal.main_arg10) = m ((c.tc : Thread Cert.RwkvMixIdeal.nD Cert.RwkvMixIdeal.τ).loc Cert.RwkvMixIdeal.main_arg10)
      ∧ r.2.mem ((c.tc : Thread Cert.RwkvMixIdeal.nD Cert.RwkvMixIdeal.τ).loc Cert.RwkvMixIdeal.main_arg11) = m ((c.tc : Thread Cert.RwkvMixIdeal.nD Cert.RwkvMixIdeal.τ).loc Cert.RwkvMixIdeal.main_arg11)
      ∧ r.2.mem ((c.tc : Thread Cert.RwkvMixIdeal.nD Cert.RwkvMixIdeal.τ).loc Cert.RwkvMixIdeal.main_arg12) = m ((c.tc : Thread Cert.RwkvMixIdeal.nD Cert.RwkvMixIdeal.τ).loc Cert.RwkvMixIdeal.main_arg12)
      ∧ r.2.mem ((c.tc : Thread Cert.RwkvMixIdeal.nD Cert.RwkvMixIdeal.τ).loc Cert.RwkvMixIdeal.main_arg13) = m ((c.tc : Thread Cert.RwkvMixIdeal.nD Cert.RwkvMixIdeal.τ).loc Cert.RwkvMixIdeal.main_arg13)
      ∧ r.2.mem ((c.tc : Thread Cert.RwkvMixIdeal.nD Cert.RwkvMixIdeal.τ).loc Cert.RwkvMixIdeal.main_arg14) = m ((c.tc : Thread Cert.RwkvMixIdeal.nD Cert.RwkvMixIdeal.τ).loc Cert.RwkvMixIdeal.main_arg14)
      ∧ r.2.mem ((c.tc : Thread Cert.RwkvMixIdeal.nD Cert.RwkvMixIdeal.τ).loc Cert.RwkvMixIdeal.main_arg15) = m ((c.tc : Thread Cert.RwkvMixIdeal.nD Cert.RwkvMixIdeal.τ).loc Cert.RwkvMixIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v34) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_v25) = v1 c
          ∧ r.2.mem ((c.tc : Thread Cert.FfnReferenceIdeal.nD Cert.FfnReferenceIdeal.τ).loc Cert.FfnReferenceIdeal.main_v28) = v2 c
          ∧ r.2.mem ((c.tc : Thread Cert.FfnReferenceIdeal.nD Cert.FfnReferenceIdeal.τ).loc Cert.FfnReferenceIdeal.main_v31) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v29) = v0 c
          ∧ r.2.mem ((c.tc : Thread Cert.MixReferenceIdeal.nD Cert.MixReferenceIdeal.τ).loc Cert.MixReferenceIdeal.main_v32) = v1 c
          ∧ r.2.mem ((c.tc : Thread Cert.MixReferenceIdeal.nD Cert.MixReferenceIdeal.τ).loc Cert.MixReferenceIdeal.main_v35) = v2 c
          ∧ r.2.mem ((c.tc : Thread Cert.MixReferenceIdeal.nD Cert.MixReferenceIdeal.τ).loc Cert.MixReferenceIdeal.main_v38) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v17) = v0 c
          ∧ r.2.mem ((c.tc : Thread Cert.InReferenceIdeal.nD Cert.InReferenceIdeal.τ).loc Cert.InReferenceIdeal.main_v18) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_Rglru_RglruIdeal : Prop :=
  True

def preserves_Rwkv_RwkvIdeal : Prop :=
  True

def preserves_RwkvMix_RwkvMixIdeal : Prop :=
  True

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hIn : Cert.In.Facts) (hInIdeal : Cert.InIdeal.Facts) (hInReferenceIdeal : Cert.InReferenceIdeal.Facts) (hRglru : Cert.Rglru.Facts) (hRglruIdeal : Cert.RglruIdeal.Facts) (hRwkv : Cert.Rwkv.Facts) (hRwkvIdeal : Cert.RwkvIdeal.Facts) (hRwkvMix : Cert.RwkvMix.Facts) (hRwkvMixIdeal : Cert.RwkvMixIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Final (hFinal := hFinal)
    ∧ quiescent_FinalIdeal (hFinalIdeal := hFinalIdeal)
    ∧ quiescent_FinalReferenceIdeal (hFinalReferenceIdeal := hFinalReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_In (hIn := hIn)
    ∧ quiescent_InIdeal (hInIdeal := hInIdeal)
    ∧ quiescent_InReferenceIdeal (hInReferenceIdeal := hInReferenceIdeal)
    ∧ quiescent_Rglru (hRglru := hRglru)
    ∧ quiescent_RglruIdeal (hRglruIdeal := hRglruIdeal)
    ∧ quiescent_Rwkv (hRwkv := hRwkv)
    ∧ quiescent_RwkvIdeal (hRwkvIdeal := hRwkvIdeal)
    ∧ quiescent_RwkvMix (hRwkvMix := hRwkvMix)
    ∧ quiescent_RwkvMixIdeal (hRwkvMixIdeal := hRwkvMixIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Final_FinalIdeal
    ∧ algebraic_FinalIdeal_FinalReferenceIdeal (hFinalIdeal := hFinalIdeal) (hFinalReferenceIdeal := hFinalReferenceIdeal)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_In_InIdeal
    ∧ algebraic_InIdeal_InReferenceIdeal (hInIdeal := hInIdeal) (hInReferenceIdeal := hInReferenceIdeal)
    ∧ preserves_Rglru_RglruIdeal
    ∧ preserves_Rwkv_RwkvIdeal
    ∧ preserves_RwkvMix_RwkvMixIdeal
-- ==== Pre_finite.lean ====
abbrev S4x4096x1536 : Shape := ⟨3, ![4, 4096, 1536]⟩
abbrev S8x257 : Shape := ⟨2, ![8, 257]⟩
abbrev S_ : Shape := ⟨0, ![]⟩

class Facts : Prop where
  bitsLt_bf16_f32 : FTy.bits .bf16 < FTy.bits .f32
  bcast_S_S4x4096x1536 : S_.BroadcastsInDim S4x4096x1536 (![] : Fin 0 → Fin S4x4096x1536.rank)
  bcast_S_S8x257 : S_.BroadcastsInDim S8x257 (![] : Fin 0 → Fin S8x257.rank)

variable [Facts]

def fn {F : FTy → Type} [FloatOps F] (main_arg0 : FVec F S4x4096x1536 .bf16) (main_arg1 : FVec F S8x257 .f32) : IVec S4x4096x1536 1 × IVec S8x257 1 :=
  let main_v0 : FVec F S4x4096x1536 .f32 := (extf .f32 · bitsLt_bf16_f32) main_arg0
  let main_v1 : FVec F S4x4096x1536 .f32 := Host.absf main_v0
  let main_cst : FVec F S_ .f32 := constant S_ .f32 0x7F800000#32
  let main_v2 : FVec F S4x4096x1536 .f32 := broadcastInDim S4x4096x1536 ![] bcast_S_S4x4096x1536 main_cst
  let main_v3 : IVec S4x4096x1536 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S4x4096x1536 : Shape := ⟨3, ![4, 4096, 1536]⟩
abbrev S8x257 : Shape := ⟨2, ![8, 257]⟩
abbrev S8x1 : Shape := ⟨2, ![8, 1]⟩
abbrev S8x384 : Shape := ⟨2, ![8, 384]⟩
abbrev S8x128 : Shape := ⟨2, ![8, 128]⟩
abbrev S8x255 : Shape := ⟨2, ![8, 255]⟩
abbrev S8x1024 : Shape := ⟨2, ![8, 1024]⟩
abbrev S8x1x1024 : Shape := ⟨3, ![8, 1, 1024]⟩
abbrev S8x256x1024 : Shape := ⟨3, ![8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S4x4096x512 : Shape := ⟨3, ![4, 4096, 512]⟩
abbrev S1x256x512 : Shape := ⟨3, ![1, 256, 512]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩

abbrev nBuf : Space → Nat
  | .hbm => 109
  | .vmem => 17
  | .smem => 0
  | _ => 0

abbrev bufTy : (tb : Table) → Fin (tcTables nBuf tb) → BufTy
  | .hbm, ⟨0, _⟩ => ⟨S4x4096x1536, .bf16⟩
  | .hbm, ⟨1, _⟩ => ⟨S8x257, .f32⟩
  | .hbm, ⟨2, _⟩ => ⟨S8x1, .f32⟩
  | .hbm, ⟨3, _⟩ => ⟨S8x384, .f32⟩
  | .hbm, ⟨4, _⟩ => ⟨S8x1, .f32⟩
  | .hbm, ⟨5, _⟩ => ⟨S8x128, .f32⟩
  | .hbm, ⟨6, _⟩ => ⟨S8x1, .f32⟩
  | .hbm, ⟨7, _⟩ => ⟨S8x255, .f32⟩
  | .hbm, ⟨8, _⟩ => ⟨S8x257, .f32⟩
  | .hbm, ⟨9, _⟩ => ⟨S8x1024, .f32⟩
  | .hbm, ⟨10, _⟩ => ⟨S8x1x1024, .f32⟩
  | .hbm, ⟨11, _⟩ => ⟨S8x256x1024, .f32⟩
  | .hbm, ⟨12, _⟩ => ⟨S8x262144, .f32⟩
  | .hbm, ⟨13, _⟩ => ⟨S8x261888, .f32⟩
  | .hbm, ⟨14, _⟩ => ⟨S8x256x1023, .f32⟩
  | .hbm, ⟨15, _⟩ => ⟨S8x256x768, .f32⟩
  | .hbm, ⟨16, _⟩ => ⟨S256, .i32⟩
  | .hbm, ⟨17, _⟩ => ⟨S256x1, .i32⟩
  | .hbm, ⟨18, _⟩ => ⟨S768, .i32⟩
  | .hbm, ⟨19, _⟩ => ⟨S1x768, .i32⟩
  | .hbm, ⟨20, _⟩ => ⟨S_, .i32⟩
  | .hbm, ⟨21, _⟩ => ⟨S_, .i32⟩
  | .hbm, ⟨22, _⟩ => ⟨S1x768, .i32⟩
  | .hbm, ⟨23, _⟩ => ⟨S1x768, .i32⟩
  | .hbm, ⟨24, _⟩ => ⟨S1x768, .i32⟩
  | .hbm, ⟨25, _⟩ => ⟨S_, .i32⟩
  | .hbm, ⟨26, _⟩ => ⟨S1x768, .i32⟩
  | .hbm, ⟨27, _⟩ => ⟨S1x768, .i1⟩
  | .hbm, ⟨28, _⟩ => ⟨S1x768, .i32⟩
  | .hbm, ⟨29, _⟩ => ⟨S1x768, .i32⟩
  | .hbm, ⟨30, _⟩ => ⟨S_, .i32⟩
  | .hbm, ⟨31, _⟩ => ⟨S1x768, .i32⟩
  | .hbm, ⟨32, _⟩ => ⟨S1x768, .i1⟩
  | .hbm, ⟨33, _⟩ => ⟨S1x768, .i1⟩
  | .hbm, ⟨34, _⟩ => ⟨S_, .i32⟩
  | .hbm, ⟨35, _⟩ => ⟨S1x768, .i32⟩
  | .hbm, ⟨36, _⟩ => ⟨S1x768, .i32⟩
  | .hbm, ⟨37, _⟩ => ⟨S1x768, .i32⟩
  | .hbm, ⟨38, _⟩ => ⟨S_, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i1⟩
  | .hbm, ⟨51, _⟩ => ⟨S256x1, .i1⟩
  | .hbm, ⟨52, _⟩ => ⟨S_, .i32⟩
  | .hbm, ⟨53, _⟩ => ⟨S256x1, .i32⟩
  | .hbm, ⟨54, _⟩ => ⟨S256x1, .i32⟩
  | .hbm, ⟨55, _⟩ => ⟨S256x1, .i32⟩
  | .hbm, ⟨56, _⟩ => ⟨S256x768, .i32⟩
  | .hbm, ⟨57, _⟩ => ⟨S256x768, .i32⟩
  | .hbm, ⟨58, _⟩ => ⟨S256x768, .i1⟩
  | .hbm, ⟨59, _⟩ => ⟨S_, .i32⟩
  | .hbm, ⟨60, _⟩ => ⟨S_, .i32⟩
  | .hbm, ⟨61, _⟩ => ⟨S1x768, .i32⟩
  | .hbm, ⟨62, _⟩ => ⟨S1x768, .i32⟩
  | .hbm, ⟨63, _⟩ => ⟨S1x768, .i32⟩
  | .hbm, ⟨64, _⟩ => ⟨S_, .i32⟩
  | .hbm, ⟨65, _⟩ => ⟨S1x768, .i32⟩
  | .hbm, ⟨66, _⟩ => ⟨S1x768, .i1⟩
  | .hbm, ⟨67, _⟩ => ⟨S1x768, .i32⟩
  | .hbm, ⟨68, _⟩ => ⟨S1x768, .i32⟩
  | .hbm, ⟨69, _⟩ => ⟨S_, .i32⟩
  | .hbm, ⟨70, _⟩ => ⟨S1x768, .i32⟩
  | .hbm, ⟨71, _⟩ => ⟨S1x768, .i1⟩
  | .hbm, ⟨72, _⟩ => ⟨S1x768, .i1⟩
  | .hbm, ⟨73, _⟩ => ⟨S_, .i32⟩
  | .hbm, ⟨74, _⟩ => ⟨S1x768, .i32⟩
  | .hbm, ⟨75, _⟩ => ⟨S1x768, .i32⟩
  | .hbm, ⟨76, _⟩ => ⟨S1x768, .i32⟩
  | .hbm, ⟨77, _⟩ => ⟨S_, .i32⟩
  | .hbm, ⟨78, _⟩ => ⟨S_, .i32⟩
  | .hbm, ⟨79, _⟩ => ⟨S256x1, .i32⟩
  | .hbm, ⟨80, _⟩ => ⟨S256x1, .i32⟩
  | .hbm, ⟨81, _⟩ => ⟨S256x1, .i32⟩
  | .hbm, ⟨82, _⟩ => ⟨S_, .i32⟩
  | .hbm, ⟨83, _⟩ => ⟨S256x1, .i32⟩
  | .hbm, ⟨84, _⟩ => ⟨S256x1, .i1⟩
  | .hbm, ⟨85, _⟩ => ⟨S256x1, .i32⟩
  | .hbm, ⟨86, _⟩ => ⟨S256x1, .i32⟩
  | .hbm, ⟨87, _⟩ => ⟨S_, .i32⟩
  | .hbm, ⟨88, _⟩ => ⟨S256x1, .i32⟩
  | .hbm, ⟨89, _⟩ => ⟨S256x1, .i1⟩
  | .hbm, ⟨90, _⟩ => ⟨S256x1, .i1⟩
  | .hbm, ⟨91, _⟩ => ⟨S_, .i32⟩
  | .hbm, ⟨92, _⟩ => ⟨S256x1, .i32⟩
  | .hbm, ⟨93, _⟩ => ⟨S256x1, .i32⟩
  | .hbm, ⟨94, _⟩ => ⟨S256x1, .i32⟩
  | .hbm, ⟨95, _⟩ => ⟨S_, .i32⟩
  | .hbm, ⟨96, _⟩ => ⟨S256x1, .i32⟩
  | .hbm, ⟨97, _⟩ => ⟨S256x1, .i32⟩
  | .hbm, ⟨98, _⟩ => ⟨S256x768, .i32⟩
  | .hbm, ⟨99, _⟩ => ⟨S256x768, .i32⟩
  | .hbm, ⟨100, _⟩ => ⟨S256x768, .i1⟩
  | .hbm, ⟨101, _⟩ => ⟨S256x768, .i1⟩
  | .hbm, ⟨102, _⟩ => ⟨S1x256x768, .i1⟩
  | .hbm, ⟨103, _⟩ => ⟨S_, .f32⟩
  | .hbm, ⟨104, _⟩ => ⟨S_, .f32⟩
  | .hbm, ⟨105, _⟩ => ⟨S8x256x768, .i1⟩
  | .hbm, ⟨106, _⟩ => ⟨S8x256x768, .f32⟩
  | .hbm, ⟨107, _⟩ => ⟨S8x256x768, .f32⟩
  | .hbm, ⟨108, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S8x256x768, .f32⟩
  | .local _ .vmem, ⟨15, _⟩ => ⟨S1x256x512, .bf16⟩
  | .local _ .vmem, ⟨16, _⟩ => ⟨S1x256x512, .bf16⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v18 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v23 : Ref sig .tc := ⟨.hbm, 76, rfl⟩
abbrev main_c_2 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v24 : Ref sig .tc := ⟨.hbm, 94, rfl⟩
abbrev main_c_3 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v32 : Ref sig .tc := ⟨.hbm, 107, rfl⟩
abbrev main_v33 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let c0_i32_0 : BitVec 32 := 0#32
  ![arg0.toNat, v1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_0 : BitVec 32 := 2#32
  let c0_i32_1 : BitVec 32 := 0#32
  ![arg0.toNat, v1.toNat, c2_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c2_i32 : BitVec 32 := 2#32
  let c0_i32_1 : BitVec 32 := 0#32
  ![arg0.toNat, v1.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x1536 : Shape := ⟨3, ![4, 4096, 1536]⟩
abbrev S8x257 : Shape := ⟨2, ![8, 257]⟩
abbrev S4x4096x512 : Shape := ⟨3, ![4, 4096, 512]⟩
abbrev S4x4096x8x64 : Shape := ⟨4, ![4, 4096, 8, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x4096x4096 : Shape := ⟨4, ![4, 8, 4096, 4096]⟩
abbrev S4096x4096x1 : Shape := ⟨3, ![4096, 4096, 1]⟩
abbrev S8x4096x4096 : Shape := ⟨3, ![8, 4096, 4096]⟩
abbrev S1x8x4096x4096 : Shape := ⟨4, ![1, 8, 4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1536, .bf16⟩
  | .hbm, ⟨1, _⟩ => ⟨S8x257, .f32⟩
  | .hbm, ⟨2, _⟩ => ⟨S4x4096x1536, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x8x64, .f32⟩
  | .hbm, ⟨7, _⟩ => ⟨S_, .f32⟩
  | .hbm, ⟨8, _⟩ => ⟨S4x4096x8x64, .f32⟩
  | .hbm, ⟨9, _⟩ => ⟨S4x4096x8x64, .f32⟩
  | .hbm, ⟨10, _⟩ => ⟨S4x4096x8x64, .f32⟩
  | .hbm, ⟨11, _⟩ => ⟨S4x4096x8x64, .f32⟩
  | .hbm, ⟨12, _⟩ => ⟨S4096, .i32⟩
  | .hbm, ⟨13, _⟩ => ⟨S4096x1, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S1x4096, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S_, .i32⟩
  | .hbm, ⟨71, _⟩ => ⟨S4096x1, .i32⟩
  | .hbm, ⟨72, _⟩ => ⟨S4096x1, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S4096x4096, .i1⟩
  | .hbm, ⟨77, _⟩ => ⟨S4x8x4096x4096, .f32⟩
  | .hbm, ⟨78, _⟩ => ⟨S_, .i32⟩
  | .hbm, ⟨79, _⟩ => ⟨S4096x4096, .i32⟩
  | .hbm, ⟨80, _⟩ => ⟨S4096x4096, .i1⟩
  | .hbm, ⟨81, _⟩ => ⟨S_, .i32⟩
  | .hbm, ⟨82, _⟩ => ⟨S4096x4096, .i32⟩
  | .hbm, ⟨83, _⟩ => ⟨S4096x4096, .i32⟩
  | .hbm, ⟨84, _⟩ => ⟨S4096x4096, .i32⟩
  | .hbm, ⟨85, _⟩ => ⟨S4096x4096x1, .i32⟩
  | .hbm, ⟨86, _⟩ => ⟨S8x4096x4096, .f32⟩
  | .hbm, ⟨87, _⟩ => ⟨S1x8x4096x4096, .f32⟩
  | .hbm, ⟨88, _⟩ => ⟨S4x8x4096x4096, .f32⟩
  | .hbm, ⟨89, _⟩ => ⟨S4x8x4096x4096, .f32⟩
  | .hbm, ⟨90, _⟩ => ⟨S1x1x4096x4096, .i1⟩
  | .hbm, ⟨91, _⟩ => ⟨S_, .f32⟩
  | .hbm, ⟨92, _⟩ => ⟨S_, .f32⟩
  | .hbm, ⟨93, _⟩ => ⟨S4x8x4096x4096, .i1⟩
  | .hbm, ⟨94, _⟩ => ⟨S4x8x4096x4096, .f32⟩
  | .hbm, ⟨95, _⟩ => ⟨S4x8x4096x4096, .f32⟩
  | .hbm, ⟨96, _⟩ => ⟨S_, .f32⟩
  | .hbm, ⟨97, _⟩ => ⟨S4x8x4096, .f32⟩
  | .hbm, ⟨98, _⟩ => ⟨S_, .f32⟩
  | .hbm, ⟨99, _⟩ => ⟨S4x8x4096, .f32⟩
  | .hbm, ⟨100, _⟩ => ⟨S4x8x4096, .f32⟩
  | .hbm, ⟨101, _⟩ => ⟨S4x8x4096x1, .f32⟩
  | .hbm, ⟨102, _⟩ => ⟨S4x8x4096x4096, .f32⟩
  | .hbm, ⟨103, _⟩ => ⟨S4x8x4096x4096, .f32⟩
  | .hbm, ⟨104, _⟩ => ⟨S4x8x4096x4096, .f32⟩
  | .hbm, ⟨105, _⟩ => ⟨S_, .f32⟩
  | .hbm, ⟨106, _⟩ => ⟨S4x8x4096, .f32⟩
  | .hbm, ⟨107, _⟩ => ⟨S4x8x4096x1, .f32⟩
  | .hbm, ⟨108, _⟩ => ⟨S4x8x4096x4096, .f32⟩
  | .hbm, ⟨109, _⟩ => ⟨S4x8x4096x4096, .f32⟩
  | .hbm, ⟨110, _⟩ => ⟨S4x8x64x4096, .f32⟩
  | .hbm, ⟨111, _⟩ => ⟨S4x4096x8x64, .f32⟩
  | .hbm, ⟨112, _⟩ => ⟨S4x4096x512, .f32⟩
  | .hbm, ⟨113, _⟩ => ⟨S4x4096x512, .bf16⟩
  | _, _ => ⟨S4x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_4 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_5 : Ref sig .tc := ⟨.hbm, 78, rfl⟩
abbrev main_v32 : Ref sig .tc := ⟨.hbm, 79, rfl⟩
abbrev main_v33 : Ref sig .tc := ⟨.hbm, 80, rfl⟩
abbrev main_c_6 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_7 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v43 : Ref sig .tc := ⟨.hbm, 95, rfl⟩
abbrev main_cst_8 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_10 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩

abbrev nD : Nat := 1
abbrev τ : Topo := Topo.v7x

variable {F : FTy → Type} [FloatOps F]
-- ==== Final.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinalReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S4x2x1024x2816 : Shape := ⟨4, ![4, 2, 1024, 2816]⟩
abbrev S4x2x2816x1024 : Shape := ⟨4, ![4, 2, 2816, 1024]⟩
abbrev S512x1024 : Shape := ⟨2, ![512, 1024]⟩
abbrev S1x1x32x2816 : Shape := ⟨4, ![1, 1, 32, 2816]⟩
abbrev S1x1x176x1024 : Shape := ⟨4, ![1, 1, 176, 1024]⟩
abbrev S32x2816 : Shape := ⟨2, ![32, 2816]⟩
abbrev S176x1024 : Shape := ⟨2, ![176, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S4x2x1024x2816, .f32⟩
  | .hbm, ⟨7, _⟩ => ⟨S4x2x1024x2816, .f32⟩
  | .hbm, ⟨8, _⟩ => ⟨S4x2x2816x1024, .f32⟩
  | .hbm, ⟨9, _⟩ => ⟨S16384x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1x32x2816, .f32⟩
  | .local _ .vmem, ⟨8, _⟩ => ⟨S1x1x32x2816, .f32⟩
  | .local _ .vmem, ⟨9, _⟩ => ⟨S1x1x32x2816, .f32⟩
  | .local _ .vmem, ⟨10, _⟩ => ⟨S1x1x32x2816, .f32⟩
  | .local _ .vmem, ⟨11, _⟩ => ⟨S1x1x176x1024, .f32⟩
  | .local _ .vmem, ⟨12, _⟩ => ⟨S1x1x176x1024, .f32⟩
  | .local _ .vmem, ⟨13, _⟩ => ⟨S512x1024, .f32⟩
  | .local _ .vmem, ⟨14, _⟩ => ⟨S512x1024, .f32⟩
  | .local _ .vmem, ⟨15, _⟩ => ⟨S32x2816, .bf16⟩
  | .local _ .vmem, ⟨16, _⟩ => ⟨S32x2816, .bf16⟩
  | .local _ .vmem, ⟨17, _⟩ => ⟨S32x2816, .bf16⟩
  | .local _ .vmem, ⟨18, _⟩ => ⟨S32x2816, .bf16⟩
  | .local _ .vmem, ⟨19, _⟩ => ⟨S176x1024, .bf16⟩
  | .local _ .vmem, ⟨20, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c1_i32_6 : BitVec 32 := 1#32
  let c0_i32_7 : BitVec 32 := 0#32
  let c0_i32_8 : BitVec 32 := 0#32
  ![c0_i32_5.toNat, c1_i32_6.toNat, v16.toNat, c0_i32_7.toNat]

def cc0_transform_7 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c1_i32_6 : BitVec 32 := 1#32
  let c0_i32_7 : BitVec 32 := 0#32
  let c0_i32_8 : BitVec 32 := 0#32
  ![c0_i32_5.toNat, c1_i32_6.toNat, v16.toNat, c0_i32_7.toNat]

def cc0_transform_8 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  ![c0_i32_4.toNat, c1_i32_5.toNat, v16.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_12 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S4x2x1024x2816 : Shape := ⟨4, ![4, 2, 1024, 2816]⟩
abbrev S4x2x2816x1024 : Shape := ⟨4, ![4, 2, 2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x1024x2816 : Shape := ⟨4, ![1, 1, 1024, 2816]⟩
abbrev S1x1x2816x1024 : Shape := ⟨4, ![1, 1, 2816, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S4x2x1024x2816, .f32⟩
  | .hbm, ⟨7, _⟩ => ⟨S4x2x1024x2816, .f32⟩
  | .hbm, ⟨8, _⟩ => ⟨S4x2x2816x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1x1x1024x2816, .f32⟩
  | .hbm, ⟨45, _⟩ => ⟨S1024x2816, .f32⟩
  | .hbm, ⟨46, _⟩ => ⟨S1024x2816, .bf16⟩
  | .hbm, ⟨47, _⟩ => ⟨S1x1x1024x2816, .f32⟩
  | .hbm, ⟨48, _⟩ => ⟨S1024x2816, .f32⟩
  | .hbm, ⟨49, _⟩ => ⟨S1024x2816, .bf16⟩
  | .hbm, ⟨50, _⟩ => ⟨S1x1x2816x1024, .f32⟩
  | .hbm, ⟨51, _⟩ => ⟨S2816x1024, .f32⟩
  | .hbm, ⟨52, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Mix.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S4x2x1024x2816 : Shape := ⟨4, ![4, 2, 1024, 2816]⟩
abbrev S4x2x2816x1024 : Shape := ⟨4, ![4, 2, 2816, 1024]⟩
abbrev S16384x512 : Shape := ⟨2, ![16384, 512]⟩
abbrev S2x1024x1024 : Shape := ⟨3, ![2, 1024, 1024]⟩
abbrev S512x512 : Shape := ⟨2, ![512, 512]⟩
abbrev S1x1024x1024 : Shape := ⟨3, ![1, 1024, 1024]⟩
abbrev S512x1024 : Shape := ⟨2, ![512, 1024]⟩
abbrev S1x1x32x2816 : Shape := ⟨4, ![1, 1, 32, 2816]⟩
abbrev S1x1x176x1024 : Shape := ⟨4, ![1, 1, 176, 1024]⟩
abbrev S32x2816 : Shape := ⟨2, ![32, 2816]⟩
abbrev S176x1024 : Shape := ⟨2, ![176, 1024]⟩
abbrev S1x512x1024 : Shape := ⟨3, ![1, 512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩

abbrev nBuf : Space → Nat
  | .hbm => 16
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S4x2x1024x2816, .f32⟩
  | .hbm, ⟨7, _⟩ => ⟨S4x2x1024x2816, .f32⟩
  | .hbm, ⟨8, _⟩ => ⟨S4x2x2816x1024, .f32⟩
  | .hbm, ⟨9, _⟩ => ⟨S16384x512, .bf16⟩
  | .hbm, ⟨10, _⟩ => ⟨S16384x512, .bf16⟩
  | .hbm, ⟨11, _⟩ => ⟨S2x1024x1024, .bf16⟩
  | .hbm, ⟨12, _⟩ => ⟨S16384x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1x1x32x2816, .f32⟩
  | .local _ .vmem, ⟨13, _⟩ => ⟨S1x1x32x2816, .f32⟩
  | .local _ .vmem, ⟨14, _⟩ => ⟨S1x1x32x2816, .f32⟩
  | .local _ .vmem, ⟨15, _⟩ => ⟨S1x1x32x2816, .f32⟩
  | .local _ .vmem, ⟨16, _⟩ => ⟨S1x1x176x1024, .f32⟩
  | .local _ .vmem, ⟨17, _⟩ => ⟨S1x1x176x1024, .f32⟩
  | .local _ .vmem, ⟨18, _⟩ => ⟨S512x1024, .f32⟩
  | .local _ .vmem, ⟨19, _⟩ => ⟨S512x1024, .f32⟩
  | .local _ .vmem, ⟨20, _⟩ => ⟨S32x2816, .bf16⟩
  | .local _ .vmem, ⟨21, _⟩ => ⟨S32x2816, .bf16⟩
  | .local _ .vmem, ⟨22, _⟩ => ⟨S32x2816, .bf16⟩
  | .local _ .vmem, ⟨23, _⟩ => ⟨S32x2816, .bf16⟩
  | .local _ .vmem, ⟨24, _⟩ => ⟨S176x1024, .bf16⟩
  | .local _ .vmem, ⟨25, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  let c0_i32_8 : BitVec 32 := 0#32
  ![c1_i32_5.toNat, c0_i32_6.toNat, v16.toNat, c0_i32_7.toNat]

def cc0_transform_10 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  let c0_i32_8 : BitVec 32 := 0#32
  ![c1_i32_5.toNat, c0_i32_6.toNat, v16.toNat, c0_i32_7.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, c0_i32_5.toNat, v16.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_14 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x32x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x32x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S4x2x1024x2816 : Shape := ⟨4, ![4, 2, 1024, 2816]⟩
abbrev S4x2x2816x1024 : Shape := ⟨4, ![4, 2, 2816, 1024]⟩
abbrev S16384x512 : Shape := ⟨2, ![16384, 512]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1x1x1024x2816 : Shape := ⟨4, ![1, 1, 1024, 2816]⟩
abbrev S1x1x2816x1024 : Shape := ⟨4, ![1, 1, 2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S4x2x1024x2816, .f32⟩
  | .hbm, ⟨7, _⟩ => ⟨S4x2x1024x2816, .f32⟩
  | .hbm, ⟨8, _⟩ => ⟨S4x2x2816x1024, .f32⟩
  | .hbm, ⟨9, _⟩ => ⟨S16384x512, .bf16⟩
  | .hbm, ⟨10, _⟩ => ⟨S16384x512, .bf16⟩
  | .hbm, ⟨11, _⟩ => ⟨S2x1024x1024, .bf16⟩
  | .hbm, ⟨12, _⟩ => ⟨S16384x1024, .bf16⟩
  | .hbm, ⟨13, _⟩ => ⟨S16384x1024, .f32⟩
  | .hbm, ⟨14, _⟩ => ⟨S1x1024x1024, .bf16⟩
  | .hbm, ⟨15, _⟩ => ⟨S1024x1024, .bf16⟩
  | .hbm, ⟨16, _⟩ => ⟨S1024x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x2816, .f32⟩
  | .hbm, ⟨35, _⟩ => ⟨S1024x2816, .f32⟩
  | .hbm, ⟨36, _⟩ => ⟨S2816x1024, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1x1024x2816, .f32⟩
  | .hbm, ⟨55, _⟩ => ⟨S1024x2816, .f32⟩
  | .hbm, ⟨56, _⟩ => ⟨S1024x2816, .bf16⟩
  | .hbm, ⟨57, _⟩ => ⟨S1x1x1024x2816, .f32⟩
  | .hbm, ⟨58, _⟩ => ⟨S1024x2816, .f32⟩
  | .hbm, ⟨59, _⟩ => ⟨S1024x2816, .bf16⟩
  | .hbm, ⟨60, _⟩ => ⟨S1x1x2816x1024, .f32⟩
  | .hbm, ⟨61, _⟩ => ⟨S2816x1024, .f32⟩
  | .hbm, ⟨62, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== In.lean ====
abbrev S16384x1024 : Shape := ⟨2, ![16384, 1024]⟩
abbrev S1x1024 : Shape := ⟨2, ![1, 1024]⟩
abbrev S2x1024x3328 : Shape := ⟨3, ![2, 1024, 3328]⟩
abbrev S16384x1536 : Shape := ⟨2, ![16384, 1536]⟩
abbrev S16384x1792 : Shape := ⟨2, ![16384, 1792]⟩
abbrev S512x1024 : Shape := ⟨2, ![512, 1024]⟩
abbrev S1x1024x3328 : Shape := ⟨3, ![1, 1024, 3328]⟩
abbrev S512x1536 : Shape := ⟨2, ![512, 1536]⟩
abbrev S512x1792 : Shape := ⟨2, ![512, 1792]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S1x1024x1792 : Shape := ⟨3, ![1, 1024, 1792]⟩
abbrev S1024x1792 : Shape := ⟨2, ![1024, 1792]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024x3328, .bf16⟩
  | .hbm, ⟨3, _⟩ => ⟨S16384x1536, .bf16⟩
  | .hbm, ⟨4, _⟩ => ⟨S16384x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3328, .bf16⟩
  | .local _ .vmem, ⟨4, _⟩ => ⟨S512x1536, .bf16⟩
  | .local _ .vmem, ⟨5, _⟩ => ⟨S512x1536, .bf16⟩
  | .local _ .vmem, ⟨6, _⟩ => ⟨S512x1792, .f32⟩
  | .local _ .vmem, ⟨7, _⟩ => ⟨S512x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S16384x1024 : Shape := ⟨2, ![16384, 1024]⟩
abbrev S1x1024 : Shape := ⟨2, ![1, 1024]⟩
abbrev S2x1024x3328 : Shape := ⟨3, ![2, 1024, 3328]⟩
abbrev S_ : Shape := ⟨0, ![]⟩
abbrev S16384 : Shape := ⟨1, ![16384]⟩
abbrev S16384x1 : Shape := ⟨2, ![16384, 1]⟩
abbrev S1x1024x3328 : Shape := ⟨3, ![1, 1024, 3328]⟩
abbrev S1024x3328 : Shape := ⟨2, ![1024, 3328]⟩
abbrev S16384x3328 : Shape := ⟨2, ![16384, 3328]⟩
abbrev S16384x1536 : Shape := ⟨2, ![16384, 1536]⟩
abbrev S16384x1792 : Shape := ⟨2, ![16384, 1792]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024x3328, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024x3328, .bf16⟩
  | .hbm, ⟨19, _⟩ => ⟨S1024x3328, .bf16⟩
  | .hbm, ⟨20, _⟩ => ⟨S1024x3328, .f32⟩
  | .hbm, ⟨21, _⟩ => ⟨S16384x3328, .f32⟩
  | .hbm, ⟨22, _⟩ => ⟨S16384x1536, .f32⟩
  | .hbm, ⟨23, _⟩ => ⟨S16384x1536, .bf16⟩
  | .hbm, ⟨24, _⟩ => ⟨S16384x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Rglru.lean ====
abbrev S4x4096x1024 : Shape := ⟨3, ![4, 4096, 1024]⟩
abbrev S1024 : Shape := ⟨1, ![1024]⟩
abbrev S2x1024x2560 : Shape := ⟨3, ![2, 1024, 2560]⟩
abbrev S4x1280 : Shape := ⟨2, ![4, 1280]⟩
abbrev S1280 : Shape := ⟨1, ![1280]⟩
abbrev S10x128x128 : Shape := ⟨3, ![10, 128, 128]⟩
abbrev S2x1280x1024 : Shape := ⟨3, ![2, 1280, 1024]⟩
abbrev S_ : Shape := ⟨0, ![]⟩
abbrev S5x256x512 : Shape := ⟨3, ![5, 256, 512]⟩
abbrev S5x128x128 : Shape := ⟨3, ![5, 128, 128]⟩
abbrev S1 : Shape := ⟨1, ![1]⟩
abbrev S2 : Shape := ⟨1, ![2]⟩
abbrev S1x1024 : Shape := ⟨2, ![1, 1024]⟩
abbrev S1x1280 : Shape := ⟨2, ![1, 1280]⟩
abbrev S1x256x1024 : Shape := ⟨3, ![1, 256, 1024]⟩
abbrev S1x1024x2560 : Shape := ⟨3, ![1, 1024, 2560]⟩
abbrev S1x1280x1024 : Shape := ⟨3, ![1, 1280, 1024]⟩
abbrev S1x3x8x1280 : Shape := ⟨4, ![1, 3, 8, 1280]⟩
abbrev S1x8x1280 : Shape := ⟨3, ![1, 8, 1280]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x1024x1280 : Shape := ⟨3, ![1, 1024, 1280]⟩
abbrev S1024x1280 : Shape := ⟨2, ![1024, 1280]⟩
abbrev S256x1280 : Shape := ⟨2, ![256, 1280]⟩
abbrev S32x8x1280 : Shape := ⟨3, ![32, 8, 1280]⟩
abbrev S1x8x1 : Shape := ⟨3, ![1, 8, 1]⟩
abbrev S3x8x1280 : Shape := ⟨3, ![3, 8, 1280]⟩
abbrev S1x1x1280 : Shape := ⟨3, ![1, 1, 1280]⟩
abbrev S31x8x1280 : Shape := ⟨3, ![31, 8, 1280]⟩
abbrev S30x8x1280 : Shape := ⟨3, ![30, 8, 1280]⟩
abbrev S29x8x1280 : Shape := ⟨3, ![29, 8, 1280]⟩
abbrev S1x256x512 : Shape := ⟨3, ![1, 256, 512]⟩
abbrev S256x512 : Shape := ⟨2, ![256, 512]⟩
abbrev S8x1280 : Shape := ⟨2, ![8, 1280]⟩
abbrev S8x1 : Shape := ⟨2, ![8, 1]⟩
abbrev S1280x1024 : Shape := ⟨2, ![1280, 1024]⟩

abbrev nBuf : Space → Nat
  | .hbm => 48
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S2x1024x2560, .bf16⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S2x1280x1024, .bf16⟩
  | .hbm, ⟨11, _⟩ => ⟨S_, .f32⟩
  | .hbm, ⟨12, _⟩ => ⟨S5x256x512, .f32⟩
  | .hbm, ⟨13, _⟩ => ⟨S5x128x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S5x256x512, .f32⟩
  | .hbm, ⟨20, _⟩ => ⟨S5x128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S5x256x512, .f32⟩
  | .hbm, ⟨27, _⟩ => ⟨S5x128x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S5x256x512, .f32⟩
  | .hbm, ⟨34, _⟩ => ⟨S5x128x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S5x256x512, .f32⟩
  | .hbm, ⟨41, _⟩ => ⟨S5x256x512, .bf16⟩
  | .hbm, ⟨42, _⟩ => ⟨S1x1024, .f32⟩
  | .hbm, ⟨43, _⟩ => ⟨S1x1280, .f32⟩
  | .hbm, ⟨44, _⟩ => ⟨S1x1280, .f32⟩
  | .hbm, ⟨45, _⟩ => ⟨S1x1280, .f32⟩
  | .hbm, ⟨46, _⟩ => ⟨S1x1280, .f32⟩
  | .hbm, ⟨47, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024x2560, .bf16⟩
  | .local _ .vmem, ⟨4, _⟩ => ⟨S4x1280, .f32⟩
  | .local _ .vmem, ⟨5, _⟩ => ⟨S1x1280, .f32⟩
  | .local _ .vmem, ⟨6, _⟩ => ⟨S5x256x512, .bf16⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1x1280x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1x3x8x1280, .f32⟩
  | .local _ .vmem, ⟨14, _⟩ => ⟨S1x8x1280, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1280x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Rwkv.lean ====
abbrev S4x4096x1792 : Shape := ⟨3, ![4, 4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1 : Shape := ⟨1, ![1]⟩
abbrev S1x1792 : Shape := ⟨2, ![1, 1792]⟩
abbrev S1x512 : Shape := ⟨2, ![1, 512]⟩
abbrev S4x4096x512 : Shape := ⟨3, ![4, 4096, 512]⟩
abbrev S4x64x1792 : Shape := ⟨3, ![4, 64, 1792]⟩
abbrev S4x64x512 : Shape := ⟨3, ![4, 64, 512]⟩
abbrev S16x128x128 : Shape := ⟨3, ![16, 128, 128]⟩
abbrev S4x8x1792 : Shape := ⟨3, ![4, 8, 1792]⟩
abbrev S256x1792 : Shape := ⟨2, ![256, 1792]⟩
abbrev S256x1 : Shape := ⟨2, ![256, 1]⟩
abbrev S1x1x1792 : Shape := ⟨3, ![1, 1, 1792]⟩
abbrev S256x512 : Shape := ⟨2, ![256, 512]⟩
abbrev S256x128 : Shape := ⟨2, ![256, 128]⟩
abbrev S64x192 : Shape := ⟨2, ![64, 192]⟩
abbrev S192x512 : Shape := ⟨2, ![192, 512]⟩
abbrev S1x1x128 : Shape := ⟨3, ![1, 1, 128]⟩
abbrev S64x128 : Shape := ⟨2, ![64, 128]⟩
abbrev S1x64x128 : Shape := ⟨3, ![1, 64, 128]⟩
abbrev S16x64x128 : Shape := ⟨3, ![16, 64, 128]⟩
abbrev S16x64 : Shape := ⟨2, ![16, 64]⟩
abbrev S16x64x1 : Shape := ⟨3, ![16, 64, 1]⟩
abbrev S16x256x128 : Shape := ⟨3, ![16, 256, 128]⟩
abbrev S16x128x256 : Shape := ⟨3, ![16, 128, 256]⟩
abbrev S16x64x256 : Shape := ⟨3, ![16, 64, 256]⟩
abbrev S1x128 : Shape := ⟨2, ![1, 128]⟩
abbrev S16x1x128 : Shape := ⟨3, ![16, 1, 128]⟩
abbrev S1x128x128 : Shape := ⟨3, ![1, 128, 128]⟩

abbrev nBuf : Space → Nat
  | .hbm => 35
  | .vmem => 19
  | .smem => 0
  | _ => 0

abbrev bufTy : (tb : Table) → Fin (tcTables nBuf tb) → BufTy
  | .hbm, ⟨0, _⟩ => ⟨S4x4096x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S128x512, .f32⟩
  | .hbm, ⟨14, _⟩ => ⟨S_, .i32⟩
  | .hbm, ⟨15, _⟩ => ⟨S1, .i32⟩
  | .hbm, ⟨16, _⟩ => ⟨S128x512, .f32⟩
  | .hbm, ⟨17, _⟩ => ⟨S128x512, .bf16⟩
  | .hbm, ⟨18, _⟩ => ⟨S_, .f32⟩
  | .hbm, ⟨19, _⟩ => ⟨S128x512, .f32⟩
  | .hbm, ⟨20, _⟩ => ⟨S_, .i32⟩
  | .hbm, ⟨21, _⟩ => ⟨S1, .i32⟩
  | .hbm, ⟨22, _⟩ => ⟨S128x512, .f32⟩
  | .hbm, ⟨23, _⟩ => ⟨S128x512, .bf16⟩
  | .hbm, ⟨24, _⟩ => ⟨S1x1792, .f32⟩
  | .hbm, ⟨25, _⟩ => ⟨S1x512, .f32⟩
  | .hbm, ⟨26, _⟩ => ⟨S1x512, .f32⟩
  | .hbm, ⟨27, _⟩ => ⟨S128x512, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S4x4096x512, .bf16⟩
  | .hbm, ⟨34, _⟩ => ⟨S4x4096x512, .f32⟩
  | .local _ .vmem, ⟨0, _⟩ => ⟨S4x64x1792, .f32⟩
  | .local _ .vmem, ⟨1, _⟩ => ⟨S4x64x1792, .f32⟩
  | .local _ .vmem, ⟨2, _⟩ => ⟨S1x1792, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S4x64x512, .bf16⟩
  | .local _ .vmem, ⟨14, _⟩ => ⟨S4x64x512, .bf16⟩
  | .local _ .vmem, ⟨15, _⟩ => ⟨S4x64x512, .f32⟩
  | .local _ .vmem, ⟨16, _⟩ => ⟨S4x64x512, .f32⟩
  | .local _ .vmem, ⟨17, _⟩ => ⟨S16x128x128, .f32⟩
  | .local _ .vmem, ⟨18, _⟩ => ⟨S4x8x1792, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RwkvMix.lean ====
abbrev S4x4096x1792 : Shape := ⟨3, ![4, 4096, 1792]⟩
abbrev S4x4096x512 : Shape := ⟨3, ![4, 4096, 512]⟩
abbrev S512 : Shape := ⟨1, ![512]⟩
abbrev S512x32 : Shape := ⟨2, ![512, 32]⟩
abbrev S32x512 : Shape := ⟨2, ![32, 512]⟩
abbrev S1792 : Shape := ⟨1, ![1792]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1 : Shape := ⟨1, ![1]⟩
abbrev S1x1792 : Shape := ⟨2, ![1, 1792]⟩
abbrev S1x512 : Shape := ⟨2, ![1, 512]⟩
abbrev S512x128 : Shape := ⟨2, ![512, 128]⟩
abbrev S4x64x1792 : Shape := ⟨3, ![4, 64, 1792]⟩
abbrev S4x64x512 : Shape := ⟨3, ![4, 64, 512]⟩
abbrev S16x128x128 : Shape := ⟨3, ![16, 128, 128]⟩
abbrev S4x8x1792 : Shape := ⟨3, ![4, 8, 1792]⟩
abbrev S256x1792 : Shape := ⟨2, ![256, 1792]⟩
abbrev S256x1 : Shape := ⟨2, ![256, 1]⟩
abbrev S1x1x1792 : Shape := ⟨3, ![1, 1, 1792]⟩
abbrev S256x512 : Shape := ⟨2, ![256, 512]⟩
abbrev S256x128 : Shape := ⟨2, ![256, 128]⟩
abbrev S64x192 : Shape := ⟨2, ![64, 192]⟩
abbrev S192x512 : Shape := ⟨2, ![192, 512]⟩
abbrev S1x1x128 : Shape := ⟨3, ![1, 1, 128]⟩
abbrev S64x128 : Shape := ⟨2, ![64, 128]⟩
abbrev S1x64x128 : Shape := ⟨3, ![1, 64, 128]⟩
abbrev S16x64x128 : Shape := ⟨3, ![16, 64, 128]⟩
abbrev S16x64 : Shape := ⟨2, ![16, 64]⟩
abbrev S16x64x1 : Shape := ⟨3, ![16, 64, 1]⟩
abbrev S16x256x128 : Shape := ⟨3, ![16, 256, 128]⟩
abbrev S16x128x256 : Shape := ⟨3, ![16, 128, 256]⟩
abbrev S16x64x256 : Shape := ⟨3, ![16, 64, 256]⟩
abbrev S1x128 : Shape := ⟨2, ![1, 128]⟩
abbrev S16x1x128 : Shape := ⟨3, ![16, 1, 128]⟩
abbrev S1x128x128 : Shape := ⟨3, ![1, 128, 128]⟩

abbrev nBuf : Space → Nat
  | .hbm => 51
  | .vmem => 22
  | .smem => 0
  | _ => 0

abbrev bufTy : (tb : Table) → Fin (tcTables nBuf tb) → BufTy
  | .hbm, ⟨0, _⟩ => ⟨S4x4096x1792, .f32⟩
  | .hbm, ⟨1, _⟩ => ⟨S4x4096x512, .f32⟩
  | .hbm, ⟨2, _⟩ => ⟨S512, .f32⟩
  | .hbm, ⟨3, _⟩ => ⟨S512x32, .f32⟩
  | .hbm, ⟨4, _⟩ => ⟨S32x512, .f32⟩
  | .hbm, ⟨5, _⟩ => ⟨S1792, .f32⟩
  | .hbm, ⟨6, _⟩ => ⟨S512, .f32⟩
  | .hbm, ⟨7, _⟩ => ⟨S64x512, .f32⟩
  | .hbm, ⟨8, _⟩ => ⟨S512, .f32⟩
  | .hbm, ⟨9, _⟩ => ⟨S64x512, .f32⟩
  | .hbm, ⟨10, _⟩ => ⟨S128x512, .f32⟩
  | .hbm, ⟨11, _⟩ => ⟨S512, .f32⟩
  | .hbm, ⟨12, _⟩ => ⟨S512, .f32⟩
  | .hbm, ⟨13, _⟩ => ⟨S8x64, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S128x512, .f32⟩
  | .hbm, ⟨18, _⟩ => ⟨S_, .i32⟩
  | .hbm, ⟨19, _⟩ => ⟨S1, .i32⟩
  | .hbm, ⟨20, _⟩ => ⟨S128x512, .f32⟩
  | .hbm, ⟨21, _⟩ => ⟨S128x512, .bf16⟩
  | .hbm, ⟨22, _⟩ => ⟨S_, .f32⟩
  | .hbm, ⟨23, _⟩ => ⟨S128x512, .f32⟩
  | .hbm, ⟨24, _⟩ => ⟨S_, .i32⟩
  | .hbm, ⟨25, _⟩ => ⟨S1, .i32⟩
  | .hbm, ⟨26, _⟩ => ⟨S128x512, .f32⟩
  | .hbm, ⟨27, _⟩ => ⟨S128x512, .bf16⟩
  | .hbm, ⟨28, _⟩ => ⟨S1x1792, .f32⟩
  | .hbm, ⟨29, _⟩ => ⟨S1x512, .f32⟩
  | .hbm, ⟨30, _⟩ => ⟨S1x512, .f32⟩
  | .hbm, ⟨31, _⟩ => ⟨S128x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S_, .f32⟩
  | .hbm, ⟨38, _⟩ => ⟨S512x128, .f32⟩
  | .hbm, ⟨39, _⟩ => ⟨S_, .i32⟩
  | .hbm, ⟨40, _⟩ => ⟨S1, .i32⟩
  | .hbm, ⟨41, _⟩ => ⟨S512x128, .f32⟩
  | .hbm, ⟨42, _⟩ => ⟨S512x128, .bf16⟩
  | .hbm, ⟨43, _⟩ => ⟨S_, .f32⟩
  | .hbm, ⟨44, _⟩ => ⟨S128x512, .f32⟩
  | .hbm, ⟨45, _⟩ => ⟨S_, .i32⟩
  | .hbm, ⟨46, _⟩ => ⟨S1, .i32⟩
  | .hbm, ⟨47, _⟩ => ⟨S128x512, .f32⟩
  | .hbm, ⟨48, _⟩ => ⟨S128x512, .bf16⟩
  | .hbm, ⟨49, _⟩ => ⟨S1x512, .f32⟩
  | .hbm, ⟨50, _⟩ => ⟨S4x4096x512, .bf16⟩
  | .local _ .vmem, ⟨0, _⟩ => ⟨S4x64x1792, .f32⟩
  | .local _ .vmem, ⟨1, _⟩ => ⟨S4x64x1792, .f32⟩
  | .local _ .vmem, ⟨2, _⟩ => ⟨S4x64x512, .f32⟩
  | .local _ .vmem, ⟨3, _⟩ => ⟨S4x64x512, .f32⟩
  | .local _ .vmem, ⟨4, _⟩ => ⟨S1x1792, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x128, .bf16⟩
  | .local _ .vmem, ⟨17, _⟩ => ⟨S128x512, .bf16⟩
  | .local _ .vmem, ⟨18, _⟩ => ⟨S4x64x512, .bf16⟩
  | .local _ .vmem, ⟨19, _⟩ => ⟨S4x64x512, .bf16⟩
  | .local _ .vmem, ⟨20, _⟩ => ⟨S16x128x128, .f32⟩
  | .local _ .vmem, ⟨21, _⟩ => ⟨S4x8x1792, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Proof.AttnBlock.lean ====
/- What one grid point of the attention kernel stores, as one composition of operations per pair of heads. The printed
   body spells the composition out four times (once per 128 lanes of the block); here it is written once, for any lanes,
   and the four stores are instances of it. -/
module

public import proofs.«01_k».proof.Defs
public import proofs.«01_k».proof.Proof.Gen.KernelIdeal.Frame
public import Idealize.ShloMosaic.Lib.Tactic

@[expose] public section

set_option maxRecDepth 16384

noncomputable section

namespace Cert.KernelIdeal.Attn

open Idealize.ShloMosaic Idealize.ShloMosaic.TcCoe Cert.KernelIdeal Cert.KernelIdeal.Gen

variable {F : FTy → Type} [FloatOps F] [Named F]

/-- The lanes of the first head of a pair: 0 … 63. -/
abbrev firstHalf : IVec S1x128 1 := cmpi .slt (iota .tc S1x128 32 [1] iota_S1x128_d1_w32) (broadcast S1x128 64#32)

/-- The lanes of the second head. -/
abbrev secondHalf : IVec S1x128 1 := xori firstHalf (constantI S1x128 1 1#1)

/-- The queries scaled by 1/8 on one head's lanes, and zero on the other's. -/
def query (half : IVec S1x128 1) (q : Vec F S1x256x128 .bf16) : FVec F S256x128 .bf16 :=
  mulf (shapeCast S256x128 q shapeCasts_S1x256x128_S256x128)
    (broadcastTo S256x128 (truncf .bf16 (select half (broadcast S1x128 (Scalar.ofBits .f32 0x3E000000#32 : F .f32))
      (broadcast S1x128 (Scalar.ofBits .f32 0x00000000#32 : F .f32))) bitsLt_bf16_f32) broadcasts_S1x128_S256x128)

/-- The scores against one block of keys: products plus the tile of the bias. -/
def score (q : FVec F S256x128 .bf16) (k : Vec F S1x256x128 .bf16) (b : Vec F S1x256x256 .f32) : FVec F S256x256 .f32 :=
  addf (matmul dot_S256x128_S256x128_S256x256_1_1_0_0_n_n none q (shapeCast S256x128 k shapeCasts_S1x256x128_S256x128)
    (constant S256x256 .f32 0x00000000#32)) (shapeCast S256x256 b shapeCasts_S1x256x256_S256x256)

/-- The same plus a scalar: 0 if the block of keys lies inside the sequence, the mask if it lies before its start. -/
def scorePen (p : F .f32) (q : FVec F S256x128 .bf16) (k : Vec F S1x256x128 .bf16) (b : Vec F S1x256x256 .f32) : FVec F S256x256 .f32 :=
  addf (score q k b) (broadcast S256x256 p)

/-- The maximum of each row, as a column. -/
def rowMax (s : FVec F S256x256 .f32) : FVec F S256x1 .f32 :=
  shapeCast S256x1 (multiReduction .maximumf [1] S256 s 0xFF800000#32 reduces_S256x256_S256 (.inl rfl) rfl) shapeCasts_S256_S256x1

/-- The sum of each row, as a column. -/
def rowSum (s : FVec F S256x256 .f32) : FVec F S256x1 .f32 :=
  shapeCast S256x1 (multiReduction .add [1] S256 s 0x00000000#32 reduces_S256x256_S256 (.inl rfl) rfl) shapeCasts_S256_S256x1

/-- The exponentials of the scores less a column. -/
def weight (s : FVec F S256x256 .f32) (m : FVec F S256x1 .f32) : FVec F S256x256 .f32 :=
  exp (subf s (broadcastTo S256x256 m broadcasts_S256x1_S256x256))

/-- Weights times one block of values. -/
def mix (p : FVec F S256x256 .f32) (v : Vec F S1x256x128 .bf16) : FVec F S256x128 .f32 :=
  matmul dot_S256x256_S256x128_S256x128_1_0_0_1_n_n none (truncf .bf16 p bitsLt_bf16_f32)
    (shapeCast S256x128 v shapeCasts_S1x256x128_S256x128) (constant S256x128 .f32 0x00000000#32)

/-- One head: the three score blocks' softmax against the three value blocks, with the division at the end. -/
def head (s0 s1 s2 : FVec F S256x256 .f32) (v0 v1 v2 : Vec F S1x256x128 .bf16) : FVec F S256x128 .f32 :=
  have m : FVec F S256x1 .f32 := maximumf (maximumf (rowMax s0) (rowMax s1)) (rowMax s2)
  divf (addf (addf (mix (weight s0 m) v0) (mix (weight s1 m) v1)) (mix (weight s2 m) v2))
    (broadcastTo S256x128 (addf (addf (rowSum (weight s0 m)) (rowSum (weight s1 m))) (rowSum (weight s2 m))) broadcasts_S256x1_S256x128)

/-- One pair of heads: each computed over all 128 lanes, the first kept on lanes 0 … 63 and the second on the rest. -/
def pair (p0 p1 : F .f32) (q k0 k1 k2 v0 v1 v2 : Vec F S1x256x128 .bf16) (a0 a1 a2 b0 b1 b2 : Vec F S1x256x256 .f32) : FVec F S1x256x128 .bf16 :=
  shapeCast S1x256x128 (truncf .bf16 (select (broadcastTo S256x128 (shapeCast S1x128 firstHalf shapeCasts_S1x128_S1x128) broadcasts_S1x128_S256x128)
    (head (scorePen p0 (query firstHalf q) k0 a0) (scorePen p1 (query firstHalf q) k1 a1) (score (query firstHalf q) k2 a2) v0 v1 v2)
    (head (scorePen p0 (query secondHalf q) k0 b0) (scorePen p1 (query secondHalf q) k1 b1) (score (query secondHalf q) k2 b2) v0 v1 v2))
    bitsLt_bf16_f32) shapeCasts_S256x128_S1x256x128

variable (i : grid0.Coords) (x0 x1 x2 x3 x4 x5 x6 : Vec F S1x256x512 .bf16) (x7 : Vec F S8x256x768 .f32)

/-- A grid point's four stores are the pair's composition at the four groups of 128 lanes. -/
theorem out_eq : out0_8 i x0 x1 x2 x3 x4 x5 x6 x7 = View.canon
    [⟨r0_21, pair (k0_pay2 i) (k0_pay3 i) (View.ld x0 r0_21) (View.ld x1 r0_21) (View.ld x2 r0_21) (View.ld x3 r0_21)
        (View.ld x4 r0_21) (View.ld x5 r0_21) (View.ld x6 r0_21) (View.ld x7 r0_22) (View.ld x7 r0_23) (View.ld x7 r0_24)
        (View.ld x7 r0_25) (View.ld x7 r0_26) (View.ld x7 r0_27)⟩,
     ⟨r0_14, pair (k0_pay2 i) (k0_pay3 i) (View.ld x0 r0_14) (View.ld x1 r0_14) (View.ld x2 r0_14) (View.ld x3 r0_14)
        (View.ld x4 r0_14) (View.ld x5 r0_14) (View.ld x6 r0_14) (View.ld x7 r0_15) (View.ld x7 r0_16) (View.ld x7 r0_17)
        (View.ld x7 r0_18) (View.ld x7 r0_19) (View.ld x7 r0_20)⟩,
     ⟨r0_7, pair (k0_pay2 i) (k0_pay3 i) (View.ld x0 r0_7) (View.ld x1 r0_7) (View.ld x2 r0_7) (View.ld x3 r0_7)
        (View.ld x4 r0_7) (View.ld x5 r0_7) (View.ld x6 r0_7) (View.ld x7 r0_8) (View.ld x7 r0_9) (View.ld x7 r0_10)
        (View.ld x7 r0_11) (View.ld x7 r0_12) (View.ld x7 r0_13)⟩,
     ⟨r0_0, pair (k0_pay2 i) (k0_pay3 i) (View.ld x0 r0_0) (View.ld x1 r0_0) (View.ld x2 r0_0) (View.ld x3 r0_0)
        (View.ld x4 r0_0) (View.ld x5 r0_0) (View.ld x6 r0_0) (View.ld x7 r0_1) (View.ld x7 r0_2) (View.ld x7 r0_3)
        (View.ld x7 r0_4) (View.ld x7 r0_5) (View.ld x7 r0_6)⟩] := by
  unfold_out out0_8
  dsimp only [pair, head, mix, weight, rowSum, rowMax, scorePen, score, query, firstHalf, secondHalf, k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]

end Cert.KernelIdeal.Attn

end
-- ==== Proof.AttnRead.lean ====
/- The operations of `AttnBlock` read at an element, over the extended reals. -/
module

public import proofs.«01_k».proof.Proof.AttnBlock
public import Idealize.ShloMosaic.Lib.Pointwise
public import Idealize.ShloMosaic.Lib.Pipeline.ValueKit.Geometry

@[expose] public section

set_option maxRecDepth 16384

noncomputable section

namespace Cert.KernelIdeal.Attn

open Idealize.ShloMosaic Idealize.ShloMosaic.TcCoe Cert.KernelIdeal Cert.KernelIdeal.Gen
open Idealize.ShloMosaic.Pointwise Idealize.ShloMosaic.Pipeline

/-- The scale 1/√64. -/
abbrev eighth : EReal := ((1 / 8 : ℝ) : EReal)

theorem ofBits_eighth : Ideal.ofBits .f32 0x3E000000#32 = eighth := by
  simp [Ideal.ofBits, Ideal.ieee, eighth]
  rw [← EReal.coe_mul]
  norm_num

theorem ofBits_bot : Ideal.ofBits .f32 0xFF800000#32 = ⊥ := by
  simp [Ideal.ofBits, Ideal.ieee]

/-- The lane test as a bit. -/
theorem lane_bit (l : Fin 128) : IntOp.cmpi .slt (BitVec.ofNat 32 l.val) 64#32 = if l.val < 64 then 1#1 else 0#1 := by
  revert l
  decide

theorem query_first (q : Vec Ideal S1x256x128 .bf16) (r : Fin 256) (l : Fin 128) :
    query (F := Ideal) firstHalf q (ix2 r l) = q (ix3 0 r l) * (if l.val < 64 then eighth else 0) := by
  pointwise [query, firstHalf]
  rw [lane_bit, ofBits_eighth]
  split_ifs <;> simp [Scalar.select]

theorem query_second (q : Vec Ideal S1x256x128 .bf16) (r : Fin 256) (l : Fin 128) :
    query (F := Ideal) secondHalf q (ix2 r l) = q (ix3 0 r l) * (if l.val < 64 then 0 else eighth) := by
  pointwise [query, secondHalf, firstHalf]
  rw [lane_bit, ofBits_eighth]
  split_ifs <;> simp [Scalar.select, IntOp.xori]

theorem score_apply (q : FVec Ideal S256x128 .bf16) (k : Vec Ideal S1x256x128 .bf16) (b : Vec Ideal S1x256x256 .f32) (r c : Fin 256) :
    score (F := Ideal) q k b (ix2 r c) = (∑ l : Fin 128, q (ix2 r l) * k (ix3 0 c l)) + b (ix3 0 r c) := by
  pointwise [score]

theorem scorePen_apply (p : EReal) (q : FVec Ideal S256x128 .bf16) (k : Vec Ideal S1x256x128 .bf16) (b : Vec Ideal S1x256x256 .f32) (r c : Fin 256) :
    scorePen (F := Ideal) p q k b (ix2 r c) = score q k b (ix2 r c) + p := by
  pointwise [scorePen]

theorem rowMax_apply (s : FVec Ideal S256x256 .f32) (r : Fin 256) (u : Fin 1) :
    rowMax (F := Ideal) s (ix2 r u) = Finset.univ.fold max ⊥ fun c : Fin 256 => s (ix2 r c) := by
  pointwise [rowMax]
  rw [ofBits_bot]

theorem rowSum_apply (s : FVec Ideal S256x256 .f32) (r : Fin 256) (u : Fin 1) :
    rowSum (F := Ideal) s (ix2 r u) = ∑ c : Fin 256, s (ix2 r c) := by
  pointwise [rowSum]

theorem weight_apply (s : FVec Ideal S256x256 .f32) (m : FVec Ideal S256x1 .f32) (r c : Fin 256) :
    weight (F := Ideal) s m (ix2 r c) = Ideal.exp (s (ix2 r c) - m (ix2 r 0)) := by
  pointwise [weight]

theorem mix_apply (p : FVec Ideal S256x256 .f32) (v : Vec Ideal S1x256x128 .bf16) (r : Fin 256) (l : Fin 128) :
    mix (F := Ideal) p v (ix2 r l) = ∑ c : Fin 256, p (ix2 r c) * v (ix3 0 c l) := by
  pointwise [mix]

theorem pair_apply (p0 p1 : EReal) (q k0 k1 k2 v0 v1 v2 : Vec Ideal S1x256x128 .bf16) (a0 a1 a2 b0 b1 b2 : Vec Ideal S1x256x256 .f32)
    (r : Fin 256) (l : Fin 128) (u : Fin 1) :
    pair (F := Ideal) p0 p1 q k0 k1 k2 v0 v1 v2 a0 a1 a2 b0 b1 b2 (ix3 u r l) = if l.val < 64
      then head (F := Ideal) (scorePen p0 (query firstHalf q) k0 a0) (scorePen p1 (query firstHalf q) k1 a1) (score (query firstHalf q) k2 a2) v0 v1 v2 (ix2 r l)
      else head (F := Ideal) (scorePen p0 (query secondHalf q) k0 b0) (scorePen p1 (query secondHalf q) k1 b1) (score (query secondHalf q) k2 b2) v0 v1 v2 (ix2 r l) := by
  pointwise [pair, firstHalf]
  rw [lane_bit]
  split_ifs <;> simp [Scalar.select]

/-- The maximum of three rows of scores. -/
def top (s : Fin 3 → Fin 256 → EReal) : EReal :=
  max (max (Finset.univ.fold max ⊥ (s 0)) (Finset.univ.fold max ⊥ (s 1))) (Finset.univ.fold max ⊥ (s 2))

/-- One output element from its row's scores against the three blocks of keys and its column of the three blocks of values. -/
def attend (s v : Fin 3 → Fin 256 → EReal) : EReal :=
  Ideal.div (((∑ c, Ideal.exp (s 0 c - top s) * v 0 c) + ∑ c, Ideal.exp (s 1 c - top s) * v 1 c) + ∑ c, Ideal.exp (s 2 c - top s) * v 2 c)
    (((∑ c, Ideal.exp (s 0 c - top s)) + ∑ c, Ideal.exp (s 1 c - top s)) + ∑ c, Ideal.exp (s 2 c - top s))

theorem head_apply (s0 s1 s2 : FVec Ideal S256x256 .f32) (v0 v1 v2 : Vec Ideal S1x256x128 .bf16) (r : Fin 256) (l : Fin 128) :
    head (F := Ideal) s0 s1 s2 v0 v1 v2 (ix2 r l)
      = attend ![fun c => s0 (ix2 r c), fun c => s1 (ix2 r c), fun c => s2 (ix2 r c)] ![fun c => v0 (ix3 0 c l), fun c => v1 (ix3 0 c l), fun c => v2 (ix3 0 c l)] := by
  unfold head
  pointwise [weight_apply, rowMax_apply, rowSum_apply, mix_apply]
  rfl

/-- A sum over 128 lanes that vanish above 64. -/
theorem sum_first (f : Fin 128 → EReal) (h : ∀ l : Fin 128, ¬ l.val < 64 → f l = 0) : ∑ l, f l = ∑ d : Fin 64, f ⟨d.val, by omega⟩ := by
  rw [show ∑ l, f l = ∑ l : Fin (64 + 64), f l from rfl, Fin.sum_univ_add,
    Finset.sum_eq_zero (s := Finset.univ) (f := fun i : Fin 64 => f (Fin.natAdd 64 i)) fun i _ => h _ (by simp), add_zero]
  rfl

/-- A sum over 128 lanes that vanish below 64. -/
theorem sum_second (f : Fin 128 → EReal) (h : ∀ l : Fin 128, l.val < 64 → f l = 0) : ∑ l, f l = ∑ d : Fin 64, f ⟨64 + d.val, by omega⟩ := by
  rw [show ∑ l, f l = ∑ l : Fin (64 + 64), f l from rfl, Fin.sum_univ_add,
    Finset.sum_eq_zero (s := Finset.univ) (f := fun i : Fin 64 => f (Fin.castAdd 64 i)) fun i _ => h _ (by simp), zero_add]
  rfl

/-- Column `d` of head `h` in a row of 512. -/
abbrev lane (h : Fin 8) (d : Fin 64) : Fin 512 := ⟨64 * h.val + d.val, by omega⟩

/-- The head a column belongs to. -/
abbrev headOf (j : Fin 512) : Fin 8 := ⟨j.val / 64, by omega⟩

/-- The score of row `r` against key `c` of block `b`, for head `h`, before any mask. -/
def dots (x : Vec Ideal S1x256x512 .bf16) (k : Vec Ideal S1x256x512 .bf16) (bias : Vec Ideal S8x256x768 .f32) (h : Fin 8) (r : Fin 256)
    (b : Fin 3) (c : Fin 256) : EReal :=
  (∑ d : Fin 64, x (ix3 0 r (lane h d)) * eighth * k (ix3 0 c (lane h d))) + bias (ix3 h r ⟨256 * b.val + c.val, by omega⟩)

/-- What a grid point leaves at row `r`, column `j` of its output block. -/
def blockVal (p0 p1 : EReal) (x : Vec Ideal S1x256x512 .bf16) (k v : Fin 3 → Vec Ideal S1x256x512 .bf16) (bias : Vec Ideal S8x256x768 .f32)
    (r : Fin 256) (j : Fin 512) : EReal :=
  attend (fun b c => dots x (k b) bias (headOf j) r b c + ![p0, p1, 0] b) (fun b c => v b (ix3 0 c j))

theorem score_first (q : Vec Ideal S1x256x128 .bf16) (k : Vec Ideal S1x256x128 .bf16) (b : Vec Ideal S1x256x256 .f32)
    (x y : Vec Ideal S1x256x512 .bf16) (bias : Vec Ideal S8x256x768 .f32) (n : Fin 4) (h : Fin 8) (hh : h.val = 2 * n.val) (e : Fin 3)
    (hq : ∀ (r : Fin 256) (l : Fin 128), q (ix3 0 r l) = x (ix3 0 r ⟨128 * n.val + l.val, by omega⟩))
    (hk : ∀ (r : Fin 256) (l : Fin 128), k (ix3 0 r l) = y (ix3 0 r ⟨128 * n.val + l.val, by omega⟩))
    (hb : ∀ r c : Fin 256, b (ix3 0 r c) = bias (ix3 h r ⟨256 * e.val + c.val, by omega⟩)) (r c : Fin 256) :
    score (F := Ideal) (query firstHalf q) k b (ix2 r c) = dots x y bias h r e c := by
  rw [score_apply, hb, sum_first _ fun l hl => by rw [query_first, if_neg hl, mul_zero, zero_mul], dots]
  congr 1
  refine Finset.sum_congr rfl fun d _ => ?_
  rw [query_first, if_pos (by simp), hq, hk]
  have e : (⟨128 * n.val + d.val, by omega⟩ : Fin 512) = lane h d := Fin.ext (by simp only; omega)
  simp only [e]

theorem score_second (q : Vec Ideal S1x256x128 .bf16) (k : Vec Ideal S1x256x128 .bf16) (b : Vec Ideal S1x256x256 .f32)
    (x y : Vec Ideal S1x256x512 .bf16) (bias : Vec Ideal S8x256x768 .f32) (n : Fin 4) (h : Fin 8) (hh : h.val = 2 * n.val + 1) (e : Fin 3)
    (hq : ∀ (r : Fin 256) (l : Fin 128), q (ix3 0 r l) = x (ix3 0 r ⟨128 * n.val + l.val, by omega⟩))
    (hk : ∀ (r : Fin 256) (l : Fin 128), k (ix3 0 r l) = y (ix3 0 r ⟨128 * n.val + l.val, by omega⟩))
    (hb : ∀ r c : Fin 256, b (ix3 0 r c) = bias (ix3 h r ⟨256 * e.val + c.val, by omega⟩)) (r c : Fin 256) :
    score (F := Ideal) (query secondHalf q) k b (ix2 r c) = dots x y bias h r e c := by
  rw [score_apply, hb, sum_second _ fun l hl => by rw [query_second, if_pos hl, mul_zero, zero_mul], dots]
  congr 1
  refine Finset.sum_congr rfl fun d _ => ?_
  rw [query_second, if_neg (by simp), hq, hk]
  have e : (⟨128 * n.val + (64 + d.val), by omega⟩ : Fin 512) = lane h d := Fin.ext (by simp only; omega)
  simp only [e]

/-- The pair's composition on lanes 128 n … 128 n + 127 of the blocks is `blockVal` there. -/
theorem pair_val (p0 p1 : EReal) (q k0 k1 k2 v0 v1 v2 : Vec Ideal S1x256x128 .bf16) (a0 a1 a2 b0 b1 b2 : Vec Ideal S1x256x256 .f32)
    (x : Vec Ideal S1x256x512 .bf16) (k v : Fin 3 → Vec Ideal S1x256x512 .bf16) (bias : Vec Ideal S8x256x768 .f32) (n : Fin 4)
    (hq : ∀ (r : Fin 256) (l : Fin 128), q (ix3 0 r l) = x (ix3 0 r ⟨128 * n.val + l.val, by omega⟩))
    (hk : ∀ (e : Fin 3) (r : Fin 256) (l : Fin 128), (![k0, k1, k2] e : Vec Ideal S1x256x128 .bf16) (ix3 0 r l) = k e (ix3 0 r ⟨128 * n.val + l.val, by omega⟩))
    (hv : ∀ (e : Fin 3) (r : Fin 256) (l : Fin 128), (![v0, v1, v2] e : Vec Ideal S1x256x128 .bf16) (ix3 0 r l) = v e (ix3 0 r ⟨128 * n.val + l.val, by omega⟩))
    (ha : ∀ (e : Fin 3) (r c : Fin 256), (![a0, a1, a2] e : Vec Ideal S1x256x256 .f32) (ix3 0 r c) = bias (ix3 ⟨2 * n.val, by omega⟩ r ⟨256 * e.val + c.val, by omega⟩))
    (hb : ∀ (e : Fin 3) (r c : Fin 256), (![b0, b1, b2] e : Vec Ideal S1x256x256 .f32) (ix3 0 r c) = bias (ix3 ⟨2 * n.val + 1, by omega⟩ r ⟨256 * e.val + c.val, by omega⟩))
    (u : Fin 1) (r : Fin 256) (l : Fin 128) :
    pair (F := Ideal) p0 p1 q k0 k1 k2 v0 v1 v2 a0 a1 a2 b0 b1 b2 (ix3 u r l) = blockVal p0 p1 x k v bias r ⟨128 * n.val + l.val, by omega⟩ := by
  have hv' : (![fun c => v0 (ix3 0 c l), fun c => v1 (ix3 0 c l), fun c => v2 (ix3 0 c l)] : Fin 3 → Fin 256 → EReal)
      = fun b c => v b (ix3 0 c ⟨128 * n.val + l.val, by omega⟩) := by
    funext e c
    rw [← hv e c l]
    match e with
    | 0 => rfl
    | 1 => rfl
    | 2 => rfl
  rw [pair_apply, blockVal]
  split_ifs with hl
  · have hh : headOf ⟨128 * n.val + l.val, by omega⟩ = ⟨2 * n.val, by omega⟩ := Fin.ext (by simp only; omega)
    rw [head_apply, hv', hh]
    congr 1
    funext e c
    match e with
    | 0 => exact (scorePen_apply ..).trans (congrArg (· + p0) (score_first q k0 a0 x (k 0) bias n _ rfl 0 hq (hk 0) (ha 0) r c))
    | 1 => exact (scorePen_apply ..).trans (congrArg (· + p1) (score_first q k1 a1 x (k 1) bias n _ rfl 1 hq (hk 1) (ha 1) r c))
    | 2 => exact (score_first q k2 a2 x (k 2) bias n _ rfl 2 hq (hk 2) (ha 2) r c).trans (add_zero _).symm
  · have hh : headOf ⟨128 * n.val + l.val, by omega⟩ = ⟨2 * n.val + 1, by omega⟩ := Fin.ext (by simp only; omega)
    rw [head_apply, hv', hh]
    congr 1
    funext e c
    match e with
    | 0 => exact (scorePen_apply ..).trans (congrArg (· + p0) (score_second q k0 b0 x (k 0) bias n _ rfl 0 hq (hk 0) (hb 0) r c))
    | 1 => exact (scorePen_apply ..).trans (congrArg (· + p1) (score_second q k1 b1 x (k 1) bias n _ rfl 1 hq (hk 1) (hb 1) r c))
    | 2 => exact (score_second q k2 b2 x (k 2) bias n _ rfl 2 hq (hk 2) (hb 2) r c).trans (add_zero _).symm

/-- A load of 128 lanes of a block of 512. -/
theorem ld_lanes (x : Vec Ideal S1x256x512 .bf16) (n : Fin 4) (inb : ∀ a, (![0, 0, 128 * n.val] : Fin 3 → Nat) a + S1x256x128.size a ≤ S1x256x512.size a)
    (r : Fin 256) (l : Fin 128) :
    View.ld x (Rect.unit (s := S1x256x512) ![0, 0, 128 * n.val] S1x256x128.size inb) (ix3 0 r l)
      = x (ix3 0 r ⟨128 * n.val + l.val, by omega⟩) := by
  refine congrArg x (funext fun a => Fin.ext ((ValueKit.rect_emb_unit_val _ _ _ _ _).trans ?_))
  match a with
  | ⟨0, _⟩ => rfl
  | ⟨1, _⟩ => exact Nat.zero_add _
  | ⟨2, _⟩ => rfl

/-- A load of one head's tile of 256 keys of the bias. -/
theorem ld_tile (b : Vec Ideal S8x256x768 .f32) (h : Fin 8) (e : Fin 3)
    (inb : ∀ a, (![h.val, 0, 256 * e.val] : Fin 3 → Nat) a + S1x256x256.size a ≤ S8x256x768.size a) (r c : Fin 256) :
    View.ld b (Rect.unit (s := S8x256x768) ![h.val, 0, 256 * e.val] S1x256x256.size inb) (ix3 0 r c)
      = b (ix3 h r ⟨256 * e.val + c.val, by omega⟩) := by
  refine congrArg b (funext fun a => Fin.ext ((ValueKit.rect_emb_unit_val _ _ _ _ _).trans ?_))
  match a with
  | ⟨0, _⟩ => rfl
  | ⟨1, _⟩ => exact Nat.zero_add _
  | ⟨2, _⟩ => rfl

/-- A store of 128 lanes into a block of 512, placed. -/
theorem emb_lanes (n : Fin 4) (inb : ∀ a, (![0, 0, 128 * n.val] : Fin 3 → Nat) a + S1x256x128.size a ≤ S1x256x512.size a)
    (u : Fin 1) (r : Fin 256) (l : Fin 128) :
    (Rect.unit (s := S1x256x512) ![0, 0, 128 * n.val] S1x256x128.size inb).emb (ix3 u r l) = ix3 0 r ⟨128 * n.val + l.val, by omega⟩ := by
  refine funext fun a => Fin.ext ((ValueKit.rect_emb_unit_val _ _ _ _ _).trans ?_)
  match a with
  | ⟨0, _⟩ => exact (Nat.zero_add _).trans (by simp)
  | ⟨1, _⟩ => exact Nat.zero_add _
  | ⟨2, _⟩ => rfl

variable (i : grid0.Coords) (x0 x1 x2 x3 x4 x5 x6 : Vec Ideal S1x256x512 .bf16) (x7 : Vec Ideal S8x256x768 .f32)

/-- The block a grid point leaves, element by element. -/
def blockOut (j : S1x256x512.Idx) : EReal :=
  blockVal (k0_pay2 (F := Ideal) i) (k0_pay3 (F := Ideal) i) x0 ![x1, x2, x3] ![x4, x5, x6] x7 (j 1) (j 2)

/-- The store at lanes 128 n … 128 n + 127, from loads at the same lanes and the two heads' tiles. -/
theorem piece_val (n : Fin 4) (inb : ∀ a, (![0, 0, 128 * n.val] : Fin 3 → Nat) a + S1x256x128.size a ≤ S1x256x512.size a)
    (inbA : ∀ e : Fin 3, ∀ a, (![2 * n.val, 0, 256 * e.val] : Fin 3 → Nat) a + S1x256x256.size a ≤ S8x256x768.size a)
    (inbB : ∀ e : Fin 3, ∀ a, (![2 * n.val + 1, 0, 256 * e.val] : Fin 3 → Nat) a + S1x256x256.size a ≤ S8x256x768.size a)
    (j : S1x256x128.Idx) :
    pair (F := Ideal) (k0_pay2 i) (k0_pay3 i)
      (View.ld x0 (Rect.unit (s := S1x256x512) ![0, 0, 128 * n.val] S1x256x128.size inb))
      (View.ld x1 (Rect.unit (s := S1x256x512) ![0, 0, 128 * n.val] S1x256x128.size inb))
      (View.ld x2 (Rect.unit (s := S1x256x512) ![0, 0, 128 * n.val] S1x256x128.size inb))
      (View.ld x3 (Rect.unit (s := S1x256x512) ![0, 0, 128 * n.val] S1x256x128.size inb))
      (View.ld x4 (Rect.unit (s := S1x256x512) ![0, 0, 128 * n.val] S1x256x128.size inb))
      (View.ld x5 (Rect.unit (s := S1x256x512) ![0, 0, 128 * n.val] S1x256x128.size inb))
      (View.ld x6 (Rect.unit (s := S1x256x512) ![0, 0, 128 * n.val] S1x256x128.size inb))
      (View.ld x7 (Rect.unit (s := S8x256x768) ![2 * n.val, 0, 256 * (0 : Fin 3).val] S1x256x256.size (inbA 0)))
      (View.ld x7 (Rect.unit (s := S8x256x768) ![2 * n.val, 0, 256 * (1 : Fin 3).val] S1x256x256.size (inbA 1)))
      (View.ld x7 (Rect.unit (s := S8x256x768) ![2 * n.val, 0, 256 * (2 : Fin 3).val] S1x256x256.size (inbA 2)))
      (View.ld x7 (Rect.unit (s := S8x256x768) ![2 * n.val + 1, 0, 256 * (0 : Fin 3).val] S1x256x256.size (inbB 0)))
      (View.ld x7 (Rect.unit (s := S8x256x768) ![2 * n.val + 1, 0, 256 * (1 : Fin 3).val] S1x256x256.size (inbB 1)))
      (View.ld x7 (Rect.unit (s := S8x256x768) ![2 * n.val + 1, 0, 256 * (2 : Fin 3).val] S1x256x256.size (inbB 2))) j
      = blockOut i x0 x1 x2 x3 x4 x5 x6 x7 ((Rect.unit (s := S1x256x512) ![0, 0, 128 * n.val] S1x256x128.size inb).emb j) := by
  obtain ⟨u, r, l, rfl⟩ : ∃ u r l, j = ix3 u r l := ⟨j 0, j 1, j 2, ValueIdx.eq_ix3 j⟩
  rw [emb_lanes, pair_val _ _ _ _ _ _ _ _ _ _ _ _ _ _ _ x0 ![x1, x2, x3] ![x4, x5, x6] x7 n (ld_lanes x0 n inb)]
  · rfl
  · intro e r l
    match e with
    | 0 => exact ld_lanes x1 n inb r l
    | 1 => exact ld_lanes x2 n inb r l
    | 2 => exact ld_lanes x3 n inb r l
  · intro e r l
    match e with
    | 0 => exact ld_lanes x4 n inb r l
    | 1 => exact ld_lanes x5 n inb r l
    | 2 => exact ld_lanes x6 n inb r l
  · intro e r c
    match e with
    | 0 => exact ld_tile x7 ⟨2 * n.val, by omega⟩ 0 (inbA 0) r c
    | 1 => exact ld_tile x7 ⟨2 * n.val, by omega⟩ 1 (inbA 1) r c
    | 2 => exact ld_tile x7 ⟨2 * n.val, by omega⟩ 2 (inbA 2) r c
  · intro e r c
    match e with
    | 0 => exact ld_tile x7 ⟨2 * n.val + 1, by omega⟩ 0 (inbB 0) r c
    | 1 => exact ld_tile x7 ⟨2 * n.val + 1, by omega⟩ 1 (inbB 1) r c
    | 2 => exact ld_tile x7 ⟨2 * n.val + 1, by omega⟩ 2 (inbB 2) r c

/-- So the whole block is `blockOut`. -/
theorem out_val : out0_8 (F := Ideal) i x0 x1 x2 x3 x4 x5 x6 x7 = blockOut i x0 x1 x2 x3 x4 x5 x6 x7 := by
  rw [out_eq]
  funext y
  refine View.canon_apply_of_pieces _ _ ?_ y (cover0_8 _ _ _ _ y)
  intro p hp
  simp only [List.mem_cons, List.not_mem_nil, or_false] at hp
  rcases hp with rfl | rfl | rfl | rfl
  · exact fun j => piece_val i x0 x1 x2 x3 x4 x5 x6 x7 3 _ (by decide) (by decide) j
  · exact fun j => piece_val i x0 x1 x2 x3 x4 x5 x6 x7 2 _ (by decide) (by decide) j
  · exact fun j => piece_val i x0 x1 x2 x3 x4 x5 x6 x7 1 _ (by decide) (by decide) j
  · exact fun j => piece_val i x0 x1 x2 x3 x4 x5 x6 x7 0 _ (by decide) (by decide) j

end Cert.KernelIdeal.Attn

end
-- ==== Proof.AttnBias.lean ====
/- The tile of the relative bias that every grid point reads: at row `r`, lane `k` of head `h`, the table's entry at the
   clipped distance `512 + r - k` where the key's chunk is among the nine that the query sees, and −∞ elsewhere. -/
module

public import proofs.«01_k».proof.Proof.AttnRead
public import Idealize.ShloMosaic.Lib.StableHlo.ReadAt

@[expose] public section

set_option maxRecDepth 16384

noncomputable section

namespace Cert.KernelIdeal.Attn

open Idealize.ShloMosaic Idealize.ShloMosaic.TcCoe Cert.KernelIdeal Cert.KernelIdeal.Gen
open Idealize.ShloMosaic.Pointwise

/-- The host's floor division of words, as it is spelt: a truncated quotient, less one where the signs differ and the
    division leaves a remainder. -/
def floorDiv (x d : BitVec 32) : BitVec 32 :=
  Scalar.select
    (IntOp.andi
      (IntOp.cmpi .ne (if x = 0 then (0 : BitVec 32) else if x.msb = true then (-1 : BitVec 32) else 1)
        (if d = 0 then (0 : BitVec 32) else if d.msb = true then (-1 : BitVec 32) else 1))
      (IntOp.cmpi .ne (IntOp.remsi ArithUnit.host x d) 0#32))
    (IntOp.subi (IntOp.divsi ArithUnit.host x d) 1#32)
    (IntOp.divsi ArithUnit.host x d)

/-- On the positions of a sequence, by 64, it is the quotient. -/
theorem floorDiv_fin : ∀ n : Fin 4096, floorDiv (BitVec.ofNat 32 n.val) 64#32 = BitVec.ofNat 32 (n.val / 64) := by
  decide +kernel

theorem floorDiv_eq (n : ℕ) (hn : n < 4096) (d : BitVec 32) (hd : d = 64#32) : floorDiv (BitVec.ofNat 32 n) d = BitVec.ofNat 32 (n / 64) :=
  hd ▸ floorDiv_fin ⟨n, hn⟩

theorem band_fin : ∀ a b : Fin 64,
    IntOp.andi (IntOp.cmpi .sge (BitVec.ofNat 32 a.val) (BitVec.ofNat 32 b.val))
      (IntOp.cmpi .sle (BitVec.ofNat 32 a.val) (IntOp.addi (BitVec.ofNat 32 b.val) 8#32))
      = if b.val ≤ a.val ∧ a.val ≤ b.val + 8 then 1#1 else 0#1 := by
  decide +kernel

/-- The band as a bit. -/
theorem band_bit (a b : ℕ) (ha : a < 64) (hb : b < 64) :
    IntOp.andi (IntOp.cmpi .sge (BitVec.ofNat 32 a) (BitVec.ofNat 32 b))
      (IntOp.cmpi .sle (BitVec.ofNat 32 a) (IntOp.addi (BitVec.ofNat 32 b) 8#32))
      = if b ≤ a ∧ a ≤ b + 8 then 1#1 else 0#1 :=
  band_fin ⟨a, ha⟩ ⟨b, hb⟩

variable (m : (ℓ : Loc nD τ sig) → Buf (Elt Ideal) ℓ)

/-- The table of relative biases, as launched. -/
abbrev rel (c : Dev nD) : Vec Ideal S8x257 .f32 := m ((c : Thread nD τ).loc main_arg1)

/-- The table's entry for a query 512 + r and a key k of the window. -/
abbrev dist (r : Fin 256) (k : Fin 768) : Fin 257 :=
  ⟨if 512 + r.val ≤ k.val + 128 then (if k.val ≤ 512 + r.val + 128 then 512 + r.val + 128 - k.val else 0) else 256, by split_ifs <;> omega⟩

theorem select_ite {α : Type} {P : Prop} [Decidable P] {x y z w : α} (hx : x = z) (hy : y = w) :
    Scalar.select (if P then 1#1 else 0#1) x y = if P then z else w := by
  subst hx hy
  by_cases h : P
  · rw [if_pos h, if_pos h]; rfl
  · rw [if_neg h, if_neg h]; rfl

/-- The sheared period of 1024 read at row `r`, lane `k`: the pieces 384, 257, 128, 255 of the period hold the table's last
    entry, the table reversed, its first entry and its last entry. -/
theorem shear (f : Fin 257 → EReal) (r : Fin 256) (k : Fin 768) (u : ℕ) (hu : u = (r.val * 1023 + k.val) % 1024) :
    (if u < 384 then f 256
      else if h : u - 384 < 257 then f (Fin.rev ⟨u - 384, h⟩)
      else if u - 384 - 257 < 128 then f 0 else f 256) = f (dist r k) := by
  have hk := k.isLt
  have hr := r.isLt
  have hu' : u = if r.val ≤ k.val then k.val - r.val else k.val + 1024 - r.val := by split_ifs <;> omega
  clear hu
  split_ifs at hu' ⊢ <;> refine congrArg f (Fin.ext ?_) <;> simp only [dist, Fin.rev] <;> split_ifs <;> simp <;> omega

/-- The same with the reversal of the table as the program spells it, axis by axis. -/
theorem shear_table (g : Vec Ideal S8x257 .f32) (h : Fin 8) (r : Fin 256) (k : Fin 768) :
    (if (r.val * 1023 + k.val) % 1024 < 384 then g (ix2 h 256)
      else if hd : (r.val * 1023 + k.val) % 1024 - 384 < 257 then
        g (ix2 (if 0 ∈ [1] then h.rev else h)
          (if 1 ∈ [1] then (⟨(r.val * 1023 + k.val) % 1024 - 384, hd⟩ : Fin 257).rev else ⟨(r.val * 1023 + k.val) % 1024 - 384, hd⟩))
      else if (r.val * 1023 + k.val) % 1024 - 384 - 257 < 128 then g (ix2 h 0) else g (ix2 h 256)) = g (ix2 h (dist r k)) := by
  rw [← shear (fun d => g (ix2 h d)) r k _ rfl]
  simp only [List.mem_singleton, zero_ne_one, if_true, if_false]

theorem bias_read (c : Dev nD) (h : Fin 8) (r : Fin 256) (k : Fin 768) :
    (V m c main_v32 : Vec Ideal S8x256x768 .f32) (ix3 h r k)
      = if r.val / 64 ≤ k.val / 64 ∧ k.val / 64 ≤ r.val / 64 + 8
        then rel m c (ix2 h (dist r k)) else (⊥ : EReal) := by
  unfold V
  after_reads_at
  after_reads_at
  have hk := floorDiv_eq k.val (by omega) (id (constantI S_ 32 64#32) ix0) rfl
  have hr := floorDiv_eq r.val (by omega) (id (constantI S_ 32 64#32) ix0) rfl
  unfold floorDiv at hk hr
  simp only [hk, hr]
  simp only [band_bit (k.val / 64) (r.val / 64) (by omega) (by omega)]
  clear hk hr
  refine select_ite ?_ ?_
  · exact shear_table _ h r k
  · exact ofBits_bot

end Cert.KernelIdeal.Attn

end
-- ==== Proof.AttnArray.lean ====
/- The output array of the attention kernel: at batch `b`, position `s`, lane `j`, a softmax over three blocks of 256 keys. -/
module

public import proofs.«01_k».proof.Proof.AttnBias
public import proofs.«01_k».proof.Proof.Gen.KernelIdeal.Value
public import Idealize.ShloMosaic.Lib.Pipeline.ValueKit.Point

@[expose] public section

set_option maxRecDepth 16384

noncomputable section

namespace Cert.KernelIdeal.Attn

open Idealize.ShloMosaic Idealize.ShloMosaic.TcCoe Cert.KernelIdeal Cert.KernelIdeal.Gen
open Idealize.ShloMosaic.Pointwise

variable (m : (ℓ : Loc nD τ sig) → Buf (Elt Ideal) ℓ)

/-- The queries, keys and values side by side, as launched. -/
abbrev qkv (c : Dev nD) : Vec Ideal S4x4096x1536 .bf16 := m ((c : Thread nD τ).loc main_arg0)

/-- The position of key `k` of block `w` (of three) of the window of the queries' block `i`; the blocks before the sequence
    are clipped to its first one. -/
abbrev keyPos (i : Fin 16) (w : Fin 3) (k : Fin 256) : Fin 4096 := ⟨256 * (i.val - (2 - w.val)) + k.val, by omega⟩

/-- A key's lane, a value's lane. -/
abbrev keyLane (j : Fin 512) : Fin 1536 := ⟨512 + j.val, by omega⟩
abbrev valLane (j : Fin 512) : Fin 1536 := ⟨1024 + j.val, by omega⟩
abbrev queryLane (j : Fin 512) : Fin 1536 := ⟨j.val, by omega⟩

/-- The score's dot product of a query and a key. -/
def dot (X : Vec Ideal S4x4096x1536 .bf16) (b : Fin 4) (h : Fin 8) (s t : Fin 4096) : EReal :=
  ∑ d : Fin 64, (X (ix3 b s (queryLane (lane h d))) : EReal) * eighth * X (ix3 b t (keyLane (lane h d)))

/-- The bias of key lane `k` of the window for the query of row `r`. -/
def biasAt (R : Vec Ideal S8x257 .f32) (h : Fin 8) (r : Fin 256) (k : Fin 768) : EReal :=
  if r.val / 64 ≤ k.val / 64 ∧ k.val / 64 ≤ r.val / 64 + 8 then R (ix2 h (dist r k)) else (⊥ : EReal)

/-- What is added to the scores of the blocks that lie before the sequence. -/
def pen (i : Fin 16) (w : Fin 3) : EReal := if i.val + w.val < 2 then ⊥ else 0

/-- The output at batch `b`, block `i`, row `r`, lane `j`. -/
def outAt (X : Vec Ideal S4x4096x1536 .bf16) (R : Vec Ideal S8x257 .f32) (b : Fin 4) (i : Fin 16) (r : Fin 256) (j : Fin 512) : EReal :=
  attend (fun w k => dot X b (headOf j) ⟨256 * i.val + r.val, by omega⟩ (keyPos i w k)
      + biasAt R (headOf j) r ⟨256 * w.val + k.val, by omega⟩ + pen i w)
    (fun w k => X (ix3 b (keyPos i w k) (valLane j)))

/-- The output array. -/
def outArr (X : Vec Ideal S4x4096x1536 .bf16) (R : Vec Ideal S8x257 .f32) : Vec Ideal S4x4096x512 .bf16 := fun y =>
  outAt X R (y 0) ⟨(y 1).val / 256, by have := (y 1).isLt; simp at this; omega⟩ ⟨(y 1).val % 256, by omega⟩ (y 2)

theorem ix_0 : ∀ t : Fin cfg0.N, win0_0.index t = ![(grid0.coords t 0).val, (grid0.coords t 1).val, 0] :=
  (by decide +kernel : ∀ t : Fin grid0.N, _)
theorem ix_1 : ∀ t : Fin cfg0.N, win0_1.index t = ![(grid0.coords t 0).val, (grid0.coords t 1).val - 2, 1] :=
  (by decide +kernel : ∀ t : Fin grid0.N, _)
theorem ix_2 : ∀ t : Fin cfg0.N, win0_2.index t = ![(grid0.coords t 0).val, (grid0.coords t 1).val - 1, 1] :=
  (by decide +kernel : ∀ t : Fin grid0.N, _)
theorem ix_3 : ∀ t : Fin cfg0.N, win0_3.index t = ![(grid0.coords t 0).val, (grid0.coords t 1).val, 1] :=
  (by decide +kernel : ∀ t : Fin grid0.N, _)
theorem ix_4 : ∀ t : Fin cfg0.N, win0_4.index t = ![(grid0.coords t 0).val, (grid0.coords t 1).val - 2, 2] :=
  (by decide +kernel : ∀ t : Fin grid0.N, _)
theorem ix_5 : ∀ t : Fin cfg0.N, win0_5.index t = ![(grid0.coords t 0).val, (grid0.coords t 1).val - 1, 2] :=
  (by decide +kernel : ∀ t : Fin grid0.N, _)
theorem ix_6 : ∀ t : Fin cfg0.N, win0_6.index t = ![(grid0.coords t 0).val, (grid0.coords t 1).val, 2] :=
  (by decide +kernel : ∀ t : Fin grid0.N, _)
theorem ix_7 : ∀ t : Fin cfg0.N, win0_7.index t = ![0, 0, 0] :=
  (by decide +kernel : ∀ t : Fin grid0.N, _)
theorem ix_8 : ∀ t : Fin cfg0.N, win0_8.index t = ![(grid0.coords t 0).val, (grid0.coords t 1).val, 0] :=
  (by decide +kernel : ∀ t : Fin grid0.N, _)

theorem pen_0 : ∀ i : Fin 16, IntOp.cmpi .sge (BitVec.ofNat 32 i.val) 2#32 = if i.val + 0 < 2 then 0#1 else 1#1 := by decide
theorem pen_1 : ∀ i : Fin 16, IntOp.cmpi .sge (BitVec.ofNat 32 i.val) 1#32 = if i.val + 1 < 2 then 0#1 else 1#1 := by decide

theorem select_pen {P : Prop} [Decidable P] (x y : EReal) : Scalar.select (if P then 0#1 else 1#1) x y = if P then y else x := by
  by_cases h : P
  · rw [if_pos h, if_pos h]; rfl
  · rw [if_neg h, if_neg h]; rfl

/-- The batch and the block of a grid point. -/
abbrev bat (t : Fin cfg0.N) : Fin 4 := grid0.coords t 0
abbrev blkq (t : Fin cfg0.N) : Fin 16 := grid0.coords t 1

theorem pay2_eq (t : Fin cfg0.N) : (k0_pay2 (F := Ideal) (grid0.coords t) : EReal) = pen (blkq t) 0 := by
  unfold k0_pay2 pen
  dsimp only
  refine (congrArg (fun b => Scalar.select b _ _) (pen_0 (blkq t))).trans ((select_pen _ _).trans ?_)
  rw [show (Named.named κ "mask" 0xF149F2CA#32 : Ideal .f32) = (⊥ : EReal) from IdealRules.named_const.ideal_named_scalar _ _ _ _ rfl]
  rw [show (Scalar.ofBits (F := Ideal) .f32 0x00000000#32 : EReal) = 0 from by simp [Scalar.ofBits, FloatOps.ofBits, Ideal.ofBits, Ideal.ieee]]
  rfl

theorem pay3_eq (t : Fin cfg0.N) : (k0_pay3 (F := Ideal) (grid0.coords t) : EReal) = pen (blkq t) 1 := by
  unfold k0_pay3 pen
  dsimp only
  refine (congrArg (fun b => Scalar.select b _ _) (pen_1 (blkq t))).trans ((select_pen _ _).trans ?_)
  rw [show (Named.named κ "mask" 0xF149F2CA#32 : Ideal .f32) = (⊥ : EReal) from IdealRules.named_const.ideal_named_scalar _ _ _ _ rfl]
  rw [show (Scalar.ofBits (F := Ideal) .f32 0x00000000#32 : EReal) = 0 from by simp [Scalar.ofBits, FloatOps.ofBits, Ideal.ofBits, Ideal.ieee]]
  rfl

/-! The input blocks at coordinates. -/

theorem q_read (c : Dev nD) (t : Fin cfg0.N) (r : Fin 256) (l : Fin 512) :
    (iblk m c 0 t : Vec Ideal S1x256x512 .bf16) (ix3 0 r l)
      = qkv m c (ix3 (bat t) ⟨256 * (blkq t).val + r.val, by omega⟩ (queryLane l)) := by
  blk_ext! [iblk, V, ix_0 t]
  all_goals simp only [bat, blkq] <;> omega

theorem k0_read (c : Dev nD) (t : Fin cfg0.N) (k : Fin 256) (l : Fin 512) :
    (iblk m c 1 t : Vec Ideal S1x256x512 .bf16) (ix3 0 k l) = qkv m c (ix3 (bat t) (keyPos (blkq t) 0 k) (keyLane l)) := by
  blk_ext! [iblk, V, ix_1 t]
  all_goals simp only [bat, blkq] <;> omega

theorem k1_read (c : Dev nD) (t : Fin cfg0.N) (k : Fin 256) (l : Fin 512) :
    (iblk m c 2 t : Vec Ideal S1x256x512 .bf16) (ix3 0 k l) = qkv m c (ix3 (bat t) (keyPos (blkq t) 1 k) (keyLane l)) := by
  blk_ext! [iblk, V, ix_2 t]
  all_goals simp only [bat, blkq] <;> omega

theorem k2_read (c : Dev nD) (t : Fin cfg0.N) (k : Fin 256) (l : Fin 512) :
    (iblk m c 3 t : Vec Ideal S1x256x512 .bf16) (ix3 0 k l) = qkv m c (ix3 (bat t) (keyPos (blkq t) 2 k) (keyLane l)) := by
  blk_ext! [iblk, V, ix_3 t]
  all_goals simp only [bat, blkq] <;> omega

theorem v0_read (c : Dev nD) (t : Fin cfg0.N) (k : Fin 256) (l : Fin 512) :
    (iblk m c 4 t : Vec Ideal S1x256x512 .bf16) (ix3 0 k l) = qkv m c (ix3 (bat t) (keyPos (blkq t) 0 k) (valLane l)) := by
  blk_ext! [iblk, V, ix_4 t]
  all_goals simp only [bat, blkq] <;> omega

theorem v1_read (c : Dev nD) (t : Fin cfg0.N) (k : Fin 256) (l : Fin 512) :
    (iblk m c 5 t : Vec Ideal S1x256x512 .bf16) (ix3 0 k l) = qkv m c (ix3 (bat t) (keyPos (blkq t) 1 k) (valLane l)) := by
  blk_ext! [iblk, V, ix_5 t]
  all_goals simp only [bat, blkq] <;> omega

theorem v2_read (c : Dev nD) (t : Fin cfg0.N) (k : Fin 256) (l : Fin 512) :
    (iblk m c 6 t : Vec Ideal S1x256x512 .bf16) (ix3 0 k l) = qkv m c (ix3 (bat t) (keyPos (blkq t) 2 k) (valLane l)) := by
  blk_ext! [iblk, V, ix_6 t]
  all_goals simp only [bat, blkq] <;> omega

theorem b_read (c : Dev nD) (t : Fin cfg0.N) (h : Fin 8) (r : Fin 256) (k : Fin 768) :
    (iblk m c 7 t : Vec Ideal S8x256x768 .f32) (ix3 h r k) = biasAt (rel m c) h r k := by
  refine Eq.trans ?_ (bias_read m c h r k)
  blk_ext! [iblk, ix_7 t]

theorem outArr_at (X : Vec Ideal S4x4096x1536 .bf16) (R : Vec Ideal S8x257 .f32) (b : Fin 4) (i : Fin 16) (r : Fin 256) (j : Fin 512)
    (e : S4x4096x512.Idx) (h0 : (e 0).val = b.val) (h1 : (e 1).val = 256 * i.val + r.val) (h2 : (e 2).val = j.val) :
    outArr X R e = outAt X R b i r j := by
  have hi : (⟨(e 1).val / 256, by have := (e 1).isLt; simp at this; omega⟩ : Fin 16) = i := Fin.ext (by simp only; omega)
  have hr : (⟨(e 1).val % 256, by omega⟩ : Fin 256) = r := Fin.ext (by simp only; omega)
  unfold outArr
  rw [hi, hr, show e 0 = b from Fin.ext h0, show e 2 = j from Fin.ext h2]

theorem three {P : Fin 3 → Prop} (h0 : P 0) (h1 : P 1) (h2 : P 2) : ∀ w, P w :=
  Fin.cases h0 (Fin.cases h1 (Fin.cases h2 fun w => w.elim0))

/-- A block's value from the reads of its inputs. -/
theorem block_of_reads (X : Vec Ideal S4x4096x1536 .bf16) (R : Vec Ideal S8x257 .f32) (b : Fin 4) (i : Fin 16)
    (p0 p1 : EReal) (x x1 x2 x3 x4 x5 x6 : Vec Ideal S1x256x512 .bf16) (bias : Vec Ideal S8x256x768 .f32)
    (hq : ∀ r l, x (ix3 0 r l) = X (ix3 b ⟨256 * i.val + r.val, by omega⟩ (queryLane l)))
    (hk0 : ∀ k l, x1 (ix3 0 k l) = X (ix3 b (keyPos i 0 k) (keyLane l)))
    (hk1 : ∀ k l, x2 (ix3 0 k l) = X (ix3 b (keyPos i 1 k) (keyLane l)))
    (hk2 : ∀ k l, x3 (ix3 0 k l) = X (ix3 b (keyPos i 2 k) (keyLane l)))
    (hv0 : ∀ k l, x4 (ix3 0 k l) = X (ix3 b (keyPos i 0 k) (valLane l)))
    (hv1 : ∀ k l, x5 (ix3 0 k l) = X (ix3 b (keyPos i 1 k) (valLane l)))
    (hv2 : ∀ k l, x6 (ix3 0 k l) = X (ix3 b (keyPos i 2 k) (valLane l)))
    (hb : ∀ h r k, bias (ix3 h r k) = biasAt R h r k) (h0 : p0 = pen i 0) (h1 : p1 = pen i 1) (r : Fin 256) (j : Fin 512) :
    blockVal p0 p1 x ![x1, x2, x3] ![x4, x5, x6] bias r j = outAt X R b i r j := by
  obtain ⟨kk, hkk⟩ : ∃ kk : Fin 3 → Vec Ideal S1x256x512 .bf16, kk = ![x1, x2, x3] := ⟨_, rfl⟩
  obtain ⟨vv, hvv⟩ : ∃ vv : Fin 3 → Vec Ideal S1x256x512 .bf16, vv = ![x4, x5, x6] := ⟨_, rfl⟩
  have hk : ∀ w k l, kk w (ix3 0 k l) = X (ix3 b (keyPos i w k) (keyLane l)) := hkk ▸ three hk0 hk1 hk2
  have hv : ∀ w k l, vv w (ix3 0 k l) = X (ix3 b (keyPos i w k) (valLane l)) := hvv ▸ three hv0 hv1 hv2
  rw [← hkk, ← hvv]
  have hp : ∀ w : Fin 3, (![p0, p1, (0 : EReal)] : Fin 3 → EReal) w = pen i w :=
    three h0 h1 (if_neg (by simp)).symm
  have hs : ∀ w k, dots x (kk w) bias (headOf j) r w k
      = dot X b (headOf j) ⟨256 * i.val + r.val, by omega⟩ (keyPos i w k) + biasAt R (headOf j) r ⟨256 * w.val + k.val, by omega⟩ := by
    intro w k
    unfold dots dot
    rw [hb]
    simp only [hq, hk]
  unfold blockVal outAt
  simp only [hs, hp, hv]

theorem arr_eq (c : Dev nD) : (dats m 0 c).arrAt 8 cfg0.N = outArr (qkv m c) (rel m c) := by
  refine (dats m 0 c).arrAt_eq_of_covers 8 _ (by decide +kernel) fun t hf y => ?_
  blk_simp
  rw [after0_8, out_val]
  unfold blockOut
  refine (block_of_reads _ _ _ _ _ _ _ _ _ _ _ _ _ _ (q_read m c t) (k0_read m c t) (k1_read m c t) (k2_read m c t)
    (v0_read m c t) (v1_read m c t) (v2_read m c t) (b_read m c t) (pay2_eq t) (pay3_eq t) (y 1) (y 2)).trans
    (outArr_at _ _ _ _ _ _ _ ?_ ?_ ?_).symm
  · idx_bounds y
    blk_simp [ix_8 t]
  · blk_simp [ix_8 t]
    simp only [blkq]
    omega
  · blk_simp [ix_8 t]

end Cert.KernelIdeal.Attn

end
-- ==== Proof.AttnSeen.lean ====
/- The reference's integers at a query `s` and a key `t`: which keys a query sees, and which entry of the bias table it takes. -/
module

public import proofs.«01_k».proof.Proof.Gen.ReferenceIdeal.Read
public import proofs.«01_k».proof.Proof.AttnBias
public import Idealize.ShloMosaic.Lib.Pointwise
public import Idealize.ShloMosaic.Lib.Tactic.CleanTypes

@[expose] public section

set_option maxRecDepth 16384

noncomputable section

namespace Cert.ReferenceIdeal.Attn

open Idealize.ShloMosaic Idealize.ShloMosaic.TcCoe Cert.ReferenceIdeal Cert.ReferenceIdeal.Read Cert.ReferenceIdeal.Gen
open Idealize.ShloMosaic.Pointwise
open Cert.KernelIdeal.Attn (floorDiv floorDiv_eq)

/-- The chunk of a position, as the first floor division computes it. -/
theorem chunk1 (n : Fin 4096) : val_main_v18 (F := Ideal) (ix1 n) = BitVec.ofNat 32 (n.val / 64) := by
  refine Eq.trans ?_ (floorDiv_eq n.val n.isLt 64#32 rfl)
  rfl

/-- … and the second. -/
theorem chunk2 (n : Fin 4096) : val_main_v20 (F := Ideal) (ix1 n) = BitVec.ofNat 32 (n.val / 64) := by
  refine Eq.trans ?_ (floorDiv_eq n.val n.isLt 64#32 rfl)
  rfl

theorem seen_fin : ∀ a b : Fin 64,
    IntOp.andi (IntOp.cmpi .sle (BitVec.ofNat 32 a.val) (BitVec.ofNat 32 b.val))
      (IntOp.cmpi .sge (BitVec.ofNat 32 a.val) (IntOp.subi (BitVec.ofNat 32 b.val) 8#32))
      = if a.val ≤ b.val ∧ b.val ≤ a.val + 8 then 1#1 else 0#1 := by
  decide +kernel

/-- A query sees the keys of its chunk and of the eight before it. -/
theorem seen (s t : Fin 4096) :
    val_main_v30 (F := Ideal) (ix2 s t) = if t.val / 64 ≤ s.val / 64 ∧ s.val / 64 ≤ t.val / 64 + 8 then 1#1 else 0#1 := by
  refine Eq.trans ?_ (seen_fin ⟨t.val / 64, by omega⟩ ⟨s.val / 64, by omega⟩)
  unfold val_main_v30 val_main_v29 val_main_v28 val_main_v27 val_main_v26 val_main_v25 val_main_v24 val_main_v23 val_main_v22 val_main_v21 val_main_v19
  pointwise [chunk1, chunk2]
  rfl

/-- The table's entry for a query and a key. -/
abbrev relDist (s t : Fin 4096) : Fin 257 :=
  ⟨if s.val ≤ t.val + 128 then (if t.val ≤ s.val + 128 then s.val + 128 - t.val else 0) else 256, by split_ifs <;> omega⟩

/-- The reference's index from a difference of positions: clipped to ±128, shifted by 128, and wrapped where negative (it is not). -/
def tableWord (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

theorem tableWord_fin : ∀ n : Fin 8192, tableWord (BitVec.ofNat 32 n.val - 4096#32)
    = BitVec.ofNat 32 (if n.val ≤ 4224 then (if 3968 ≤ n.val then n.val - 3968 else 0) else 256) := by
  decide +kernel

theorem entry (s t : Fin 4096) : val_main_v36 (F := Ideal) (ix2 s t) = BitVec.ofNat 32 (relDist s t).val := by
  have hs := s.isLt
  have ht := t.isLt
  have h := tableWord_fin ⟨4096 + s.val - t.val, by omega⟩
  have hd : BitVec.ofNat 32 (4096 + s.val - t.val) - 4096#32 = IntOp.subi (BitVec.ofNat 32 s.val) (BitVec.ofNat 32 t.val) := by
    apply BitVec.eq_of_toNat_eq
    simp only [IntOp.subi, BitVec.toNat_sub, BitVec.toNat_ofNat]
    omega
  simp only [hd] at h
  have he : (relDist s t).val = if 4096 + s.val - t.val ≤ 4224 then (if 3968 ≤ 4096 + s.val - t.val then 4096 + s.val - t.val - 3968 else 0) else 256 := by
    simp only [relDist]
    split_ifs <;> omega
  rw [he, ← h]
  unfold val_main_v36 val_main_v35 val_main_v34 val_main_v33 val_main_v32 val_main_v17 val_main_v16 val_main_v15 val_main_call0_v4 val_main_call0_v3 val_main_call0_v2 val_main_call0_v1 val_main_call0_v0 val_main_v14 val_main_v13 val_main_v12 val_main_v11 val_main_v10 val_main_v9
  pointwise []
  rfl

theorem table (R : Vec Ideal S8x257 .f32) (h : Fin 8) (s t : Fin 4096) :
    (val_main_v38 (F := Ideal) R : Vec Ideal S8x4096x4096 .f32) (ix3 h s t) = R (ix2 h (relDist s t)) := by
  have hi : val_main_v37 (F := Ideal) (ix3 s t (0 : Fin 1)) = BitVec.ofNat 32 (relDist s t).val := by
    refine Eq.trans ?_ (entry s t)
    unfold val_main_v37
    pointwise []
  have hw : (BitVec.ofNat 32 (relDist s t).val).toInt.toNat = (relDist s t).val := by
    have := (relDist s t).isLt
    generalize (relDist s t).val = n at this ⊢
    rw [BitVec.toInt_eq_toNat_of_lt (by simp only [BitVec.toNat_ofNat]; omega)]
    simp only [BitVec.toNat_ofNat]; omega
  unfold val_main_v38
  generalize val_main_v37 (F := Ideal) = idx at hi ⊢
  unfold Host.gather
  refine congrArg R (funext fun a => Fin.ext ?_)
  unfold GatherDims.operandIdx
  have h01 : a = 0 ∨ a = 1 := by
    match a with
    | ⟨0, _⟩ => exact Or.inl rfl
    | ⟨1, _⟩ => exact Or.inr rfl
  rcases h01 with rfl | rfl
  · show GatherDims.start _ _ _ _ + GatherDims.batchCoord _ _ _ + GatherDims.offCoord _ _ _ = h.val
    rw [GatherDims.batchCoord_eq_zero _ _ _ List.not_mem_nil]
    unfold GatherDims.start
    rw [dif_neg (show (0 : Fin S8x257.rank) ∉ gather_S8x257_S4096x4096x1_S8x4096x4096_0_1_n_n_1_2_81.startIndexMap from fun h => by simpa using List.mem_singleton.mp h)]
    simp only [Nat.zero_add]
    rfl
  · show GatherDims.start _ _ _ _ + GatherDims.batchCoord _ _ _ + GatherDims.offCoord _ _ _ = (relDist s t).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin S8x257.rank) ∈ gather_S8x257_S4096x4096x1_S8x4096x4096_0_1_n_n_1_2_81.startIndexMap from List.mem_singleton.mpr rfl)]
    have hsi : ∀ q, gather_S8x257_S4096x4096x1_S8x4096x4096_0_1_n_n_1_2_81.siIdx (ix3 h s t) q = ix3 s t (0 : Fin 1) := by
      intro q
      funext b
      refine Fin.ext ?_
      match b with
      | ⟨0, _⟩ => rfl
      | ⟨1, _⟩ => rfl
      | ⟨2, _⟩ => exact Nat.lt_one_iff.1 (Fin.isLt (n := 1) _)
    rw [hsi, hi, hw]
    have := (relDist s t).isLt
    simp only [Nat.add_zero]
    exact min_eq_left (Nat.le_of_lt_succ this)

theorem row_max (X : Vec Ideal S4x4096x1536 .bf16) (R : Vec Ideal S8x257 .f32) (b : Fin 4) (h : Fin 8) (s : Fin 4096) :
    (val_main_v44 (F := Ideal) X R : Vec Ideal S4x8x4096 .f32) (ix3 b h s)
      = (Finset.univ.sup fun t : Fin 4096 => (val_main_v43 (F := Ideal) X R (ix4 b h s t) : EReal)) := by
  unfold val_main_v44
  generalize val_main_v43 (F := Ideal) X R = y
  unfold val_main_cst_8
  clean_types
  pointwise []
  rw [Cert.KernelIdeal.Attn.ofBits_bot]
  rfl

end Cert.ReferenceIdeal.Attn

end
-- ==== Proof.AttnRef.lean ====
/- The reference's output at an index: the masked softmax over all keys. -/
module

public import proofs.«01_k».proof.Proof.AttnSeen
public import proofs.«01_k».proof.Proof.AttnArray

@[expose] public section

set_option maxRecDepth 16384

noncomputable section

namespace Cert.ReferenceIdeal.Attn

open Idealize.ShloMosaic Idealize.ShloMosaic.TcCoe Cert.ReferenceIdeal Cert.ReferenceIdeal.Read Cert.ReferenceIdeal.Gen
open Idealize.ShloMosaic.Pointwise
open Cert.KernelIdeal.Attn (eighth ofBits_eighth ofBits_bot lane headOf dot select_ite queryLane keyLane valLane)

variable (X : Vec Ideal S4x4096x1536 .bf16) (R : Vec Ideal S8x257 .f32)

/-- The masked score of query `s` and key `t`. -/
def score (b : Fin 4) (h : Fin 8) (s t : Fin 4096) : EReal :=
  if t.val / 64 ≤ s.val / 64 ∧ s.val / 64 ≤ t.val / 64 + 8 then dot X b h s t + R (ix2 h (relDist s t)) else (⊥ : EReal)

/-- The output at batch `b`, position `s`, lane `j`. -/
def refAt (b : Fin 4) (s : Fin 4096) (j : Fin 512) : EReal :=
  ∑ t, (X (ix3 b t (valLane j)) : EReal) *
    Ideal.div (Ideal.exp (score X R b (headOf j) s t - Finset.univ.sup (score X R b (headOf j) s)))
      (∑ z, Ideal.exp (score X R b (headOf j) s z - Finset.univ.sup (score X R b (headOf j) s)))

theorem dot_read (b : Fin 4) (h : Fin 8) (s t : Fin 4096) :
    (val_main_v31 (F := Ideal) X : Vec Ideal S4x8x4096x4096 .f32) (ix4 b h s t) = dot X b h s t := by
  unfold val_main_v31 val_main_v7 val_main_v6 val_main_v5 val_main_v4 val_main_v2 val_main_v1 val_main_v0 val_main_cst
  pointwise []
  simp only [ofBits_eighth]
  exact Finset.sum_congr rfl fun d _ => by
    rw [show (⟨h.val * 64 + d.val, by omega⟩ : Fin 1536) = queryLane (lane h d) from Fin.ext (by simp [lane]; omega),
      show (⟨512 + (h.val * 64 + d.val), by omega⟩ : Fin 1536) = keyLane (lane h d) from Fin.ext (by simp [lane]; omega)]

theorem score_read (b : Fin 4) (h : Fin 8) (s t : Fin 4096) :
    (val_main_v43 (F := Ideal) X R : Vec Ideal S4x8x4096x4096 .f32) (ix4 b h s t) = score X R b h s t := by
  unfold val_main_v43 val_main_call3_v2 val_main_call3_v1 val_main_call3_v0 val_main_cst_7 val_main_v42 val_main_v41 val_main_v40 val_main_v39
  pointwise [dot_read, table, seen]
  exact select_ite rfl ofBits_bot

/-- The row's maximum. -/
def top (b : Fin 4) (h : Fin 8) (s : Fin 4096) : EReal := Finset.univ.sup (score X R b h s)

theorem top_read (b : Fin 4) (h : Fin 8) (s : Fin 4096) :
    (val_main_v44 (F := Ideal) X R : Vec Ideal S4x8x4096 .f32) (ix3 b h s) = top X R b h s := by
  rw [row_max]
  simp only [score_read]
  rfl

theorem max_read (b : Fin 4) (h : Fin 8) (s : Fin 4096) :
    (val_main_v46 (F := Ideal) X R : Vec Ideal S4x8x4096 .f32) (ix3 b h s) = top X R b h s := by
  rw [val_main_v46_apply, top_read, val_main_v45_apply, val_main_cst_9_apply]
  exact (congrArg (max · (top X R b h s)) ofBits_bot).trans (bot_sup_eq _)

theorem exp_read (b : Fin 4) (h : Fin 8) (s t : Fin 4096) :
    (val_main_v50 (F := Ideal) X R : Vec Ideal S4x8x4096x4096 .f32) (ix4 b h s t) = Ideal.exp (score X R b h s t - top X R b h s) := by
  unfold val_main_v50 val_main_v49 val_main_v48 val_main_v47
  generalize hy : val_main_v46 (F := Ideal) X R = y
  generalize hz : val_main_v43 (F := Ideal) X R = z
  have ht : y (ix3 b h s) = top X R b h s := hy ▸ max_read X R b h s
  have hs : z (ix4 b h s t) = score X R b h s t := hz ▸ score_read X R b h s t
  pointwise []
  rw [hs, ht]

theorem weight_read (b : Fin 4) (h : Fin 8) (s t : Fin 4096) :
    (val_main_v54 (F := Ideal) X R : Vec Ideal S4x8x4096x4096 .f32) (ix4 b h s t)
      = Ideal.div (Ideal.exp (score X R b h s t - top X R b h s)) (∑ z, Ideal.exp (score X R b h s z - top X R b h s)) := by
  have hsum : val_main_v51 (F := Ideal) X R (ix3 b h s) = ∑ z, Ideal.exp (score X R b h s z - top X R b h s) := by
    rw [val_main_v51_apply]
    refine (congrArg (· + _) ?_).trans ((zero_add _).trans (Finset.sum_congr rfl fun z _ => ?_))
    · simp [val_main_cst_10, constant, FloatOps.ofBits, Ideal.ofBits, Ideal.ieee]
    · refine Eq.trans (congrArg _ ?_) (exp_read X R b h s z)
      funext a
      match a with
      | ⟨0, _⟩ => rfl
      | ⟨1, _⟩ => rfl
      | ⟨2, _⟩ => rfl
      | ⟨3, _⟩ => rfl
  unfold val_main_v54 val_main_v53 val_main_v52
  pointwise [exp_read]
  rw [hsum]

theorem out_read (b : Fin 4) (s : Fin 4096) (j : Fin 512) :
    (val_main_v58 (F := Ideal) X R : Vec Ideal S4x4096x512 .bf16) (ix3 b s j) = refAt X R b s j := by
  unfold val_main_v58 val_main_v57 val_main_v56 val_main_v55
  pointwise [weight_read]
  unfold refAt
  refine Finset.sum_congr rfl fun t _ => congrArg₂ (· * ·) ?_ rfl
  unfold val_main_v8 val_main_v3 val_main_v0
  pointwise []

end Cert.ReferenceIdeal.Attn

end
-- ==== Proof.Softmax.lean ====
/- A softmax row computed over a window of the keys equals the softmax over all keys with the unseen ones masked: the maximum, the
   sum of exponentials and the weighted sum of values do not see a score of −∞. -/
module

public import Idealize.ShloMosaic.PureOps
public import Idealize.ShloMosaic.Lib.Pointwise

@[expose] public section

noncomputable section

namespace Cert.Softmax

open Idealize.ShloMosaic

variable {ι κ : Type} [Fintype ι] [Fintype κ] {s : ι → EReal} {S V : κ → EReal} {e : ι → κ}

/-- The window `s` holds the scores `S` that are not −∞, each once. -/
structure Window (s : ι → EReal) (S : κ → EReal) (e : ι → κ) : Prop where
  eq : ∀ x, s x ≠ ⊥ → s x = S (e x)
  inj : ∀ x y, s x ≠ ⊥ → s y ≠ ⊥ → e x = e y → x = y
  onto : ∀ y, S y ≠ ⊥ → ∃ x, s x ≠ ⊥ ∧ e x = y

/-- A sum whose terms vanish at −∞. -/
theorem Window.sum_eq (w : Window s S e) (g : EReal → EReal → EReal) (hg : ∀ a, g ⊥ a = 0) :
    ∑ x, g (s x) (V (e x)) = ∑ y, g (S y) (V y) := by
  have hb : ∀ x, g (s x) (V (e x)) ≠ 0 → s x ≠ ⊥ := fun x h hx => h (by rw [hx, hg])
  refine Finset.sum_bij_ne_zero (fun x _ _ => e x) (fun _ _ _ => Finset.mem_univ _)
    (fun x _ hx y _ hy h => w.inj x y (hb x hx) (hb y hy) h) (fun y _ hy => ?_) (fun x _ hx => by rw [w.eq x (hb x hx)])
  obtain ⟨x, hx, rfl⟩ := w.onto y fun h => hy (by rw [h, hg])
  exact ⟨x, Finset.mem_univ _, by rw [w.eq x hx]; exact hy, rfl⟩

/-- The maximum. -/
theorem Window.sup_eq (w : Window s S e) : Finset.univ.sup s = Finset.univ.sup S := by
  apply le_antisymm <;> refine Finset.sup_le fun x _ => ?_
  · by_cases h : s x = ⊥
    · rw [h]; exact bot_le
    · rw [w.eq x h]; exact Finset.le_sup (f := S) (Finset.mem_univ _)
  · by_cases h : S x = ⊥
    · rw [h]; exact bot_le
    · obtain ⟨y, hy, rfl⟩ := w.onto x h
      rw [← w.eq y hy]; exact Finset.le_sup (f := s) (Finset.mem_univ _)

theorem coe_sum (f : κ → ℝ) : ∑ y, (f y : EReal) = ((∑ y, f y : ℝ) : EReal) :=
  (map_sum (⟨⟨((↑) : ℝ → EReal), EReal.coe_zero⟩, EReal.coe_add⟩ : ℝ →+ EReal) f Finset.univ).symm

theorem exp_coe (x : ℝ) : Ideal.exp (x : EReal) = ((Real.exp x : ℝ) : EReal) := rfl

/-- Real scores and masked ones, one of them real: the maximum is real. -/
theorem sup_real (hT : ∀ y, S y ≠ ⊤) (y₀ : κ) (h₀ : S y₀ ≠ ⊥) : ∃ M : ℝ, Finset.univ.sup S = (M : EReal) := by
  have h1 : Finset.univ.sup S ≠ ⊤ := ((Finset.sup_lt_iff (bot_lt_top)).2 fun y _ => lt_top_iff_ne_top.2 (hT y)).ne
  have h2 : Finset.univ.sup S ≠ ⊥ := fun h => h₀ (le_bot_iff.1 (h ▸ Finset.le_sup (f := S) (Finset.mem_univ y₀)))
  exact ⟨_, (EReal.coe_toReal h1 h2).symm⟩

/-- An exponential below the maximum is a real number, positive where the score is real. -/
theorem exp_sub (M : ℝ) (x : EReal) (hx : x ≠ ⊤) : ∃ p : ℝ, 0 ≤ p ∧ (x ≠ ⊥ → 0 < p) ∧ Ideal.exp (x - (M : EReal)) = (p : EReal) := by
  induction x with
  | bot => exact ⟨0, le_rfl, fun h => absurd rfl h, by rw [EReal.bot_sub]; rfl⟩
  | top => exact absurd rfl hx
  | coe x => exact ⟨Real.exp (x - M), (Real.exp_pos _).le, fun _ => Real.exp_pos _, by rw [← EReal.coe_sub, exp_coe]⟩

/-- Dividing the weighted sum is weighting by the quotients. -/
theorem quotient (p v : κ → ℝ) (L : ℝ) (hL : 0 < L) :
    Ideal.div (∑ y, (p y : EReal) * (v y : EReal)) (L : EReal) = ∑ y, (v y : EReal) * Ideal.div (p y : EReal) (L : EReal) := by
  have hd : ∀ a : EReal, Ideal.div a (L : EReal) = a * ((L⁻¹ : ℝ) : EReal) := fun a => by
    unfold Ideal.div
    rw [if_neg (by exact_mod_cast hL.ne'), EReal.coe_inv]
  simp only [hd, ← EReal.coe_mul, coe_sum]
  rw [Finset.sum_mul]
  exact congrArg _ (Finset.sum_congr rfl fun y _ => by ring)

/-- The row computed over the window is the row computed over all keys. -/
theorem Window.attend_eq (w : Window s S e) (hT : ∀ y, S y ≠ ⊤) (y₀ : κ) (h₀ : S y₀ ≠ ⊥) (v : κ → ℝ) (hV : ∀ y, V y = (v y : EReal)) :
    Ideal.div (∑ x, Ideal.exp (s x - Finset.univ.sup s) * V (e x)) (∑ x, Ideal.exp (s x - Finset.univ.sup s))
      = ∑ y, V y * Ideal.div (Ideal.exp (S y - Finset.univ.sup S)) (∑ z, Ideal.exp (S z - Finset.univ.sup S)) := by
  rw [w.sup_eq]
  obtain ⟨M, hM⟩ := sup_real hT y₀ h₀
  have hz : Ideal.exp ((⊥ : EReal) - (M : EReal)) = 0 := by rw [EReal.bot_sub]; rfl
  rw [hM, w.sum_eq (fun a b => Ideal.exp (a - (M : EReal)) * b) (fun a => by rw [hz, zero_mul]),
    w.sum_eq (V := V) (fun a _ => Ideal.exp (a - (M : EReal))) (fun _ => hz)]
  choose p hp0 hp hpe using fun y => exp_sub M (S y) (hT y)
  simp only [hpe, hV]
  have hL : 0 < ∑ y, p y := Finset.sum_pos' (fun y _ => hp0 y) ⟨y₀, Finset.mem_univ _, hp y₀ h₀⟩
  rw [coe_sum]
  exact quotient p v _ hL

end Cert.Softmax

end
-- ==== Proof.AttnEqual.lean ====
/- The window of three blocks of keys holds every key that a query sees, once: the kernel's output is the reference's where the
   inputs are real numbers. -/
module

public import proofs.«01_k».proof.Proof.AttnRef
public import proofs.«01_k».proof.Proof.Softmax

@[expose] public section

set_option maxRecDepth 16384

noncomputable section

namespace Cert.Attn

open Idealize.ShloMosaic Idealize.ShloMosaic.TcCoe Cert.KernelIdeal
open Idealize.ShloMosaic.Pointwise
open Cert.KernelIdeal.Attn
open Cert.ReferenceIdeal.Attn (relDist refAt)

/-- A block's attention as quotient of two sums over the window's keys. -/
theorem attend_sums (s v : Fin 3 → Fin 256 → EReal) :
    attend s v = Ideal.div (∑ x : Fin 3 × Fin 256, Ideal.exp (s x.1 x.2 - Finset.univ.sup fun x : Fin 3 × Fin 256 => s x.1 x.2) * v x.1 x.2)
      (∑ x : Fin 3 × Fin 256, Ideal.exp (s x.1 x.2 - Finset.univ.sup fun x : Fin 3 × Fin 256 => s x.1 x.2)) := by
  have ht : Cert.KernelIdeal.Attn.top s = Finset.univ.sup fun x : Fin 3 × Fin 256 => s x.1 x.2 := by
    have h : ∀ w, Finset.univ.sup (s w) ≤ Finset.univ.sup fun x : Fin 3 × Fin 256 => s x.1 x.2 := fun w =>
      Finset.sup_le fun k _ => Finset.le_sup (f := fun x : Fin 3 × Fin 256 => s x.1 x.2) (Finset.mem_univ (w, k))
    refine le_antisymm (max_le (max_le (h 0) (h 1)) (h 2)) (Finset.sup_le fun x _ => ?_)
    have hle : ∀ w k, s w k ≤ Finset.univ.sup (s w) := fun w k => Finset.le_sup (Finset.mem_univ k)
    obtain ⟨w, k⟩ := x
    exact three (P := fun w => s w k ≤ Cert.KernelIdeal.Attn.top s) ((hle 0 k).trans ((le_max_left _ _).trans (le_max_left _ _))) ((hle 1 k).trans ((le_max_right _ _).trans (le_max_left _ _)))
      ((hle 2 k).trans (le_max_right _ _)) w
  unfold attend
  rw [ht]
  simp only [Fintype.sum_prod_type, Fin.sum_univ_three]

variable (X : Vec Ideal S4x4096x1536 .bf16) (R : Vec Ideal S8x257 .f32)

/-- A dot product of real numbers is real. -/
theorem dot_real (hX : ∀ i, ∃ x : ℝ, (X i : EReal) = x) (b : Fin 4) (h : Fin 8) (s t : Fin 4096) : ∃ x : ℝ, dot X b h s t = x := by
  choose x hx using hX
  refine ⟨∑ d : Fin 64, x (ix3 b s (queryLane (lane h d))) * (1 / 8) * x (ix3 b t (keyLane (lane h d))), ?_⟩
  unfold dot eighth
  simp only [hx, ← EReal.coe_mul]
  exact Cert.Softmax.coe_sum _

/-- What the kernel adds up at a key of the window: −∞ unless the key is one of the sequence that the query sees. -/
theorem window_score (d : EReal) (h : Fin 8) (i : Fin 16) (r : Fin 256) (w : Fin 3) (k : Fin 256) :
    d + biasAt R h r ⟨256 * w.val + k.val, by omega⟩ + pen i w
      = if (r.val / 64 ≤ (256 * w.val + k.val) / 64 ∧ (256 * w.val + k.val) / 64 ≤ r.val / 64 + 8) ∧ 2 ≤ i.val + w.val
        then d + R (ix2 h (Cert.KernelIdeal.Attn.dist r ⟨256 * w.val + k.val, by omega⟩)) else ⊥ := by
  unfold biasAt pen
  dsimp only
  split_ifs <;> first | omega | (simp only [add_zero, EReal.add_bot, EReal.bot_add]; done)

theorem equal (hX : ∀ i, ∃ x : ℝ, (X i : EReal) = x) (hR : ∀ i, ∃ x : ℝ, (R i : EReal) = x)
    (b : Fin 4) (i : Fin 16) (r : Fin 256) (j : Fin 512) :
    outAt X R b i r j = refAt X R b ⟨256 * i.val + r.val, by omega⟩ j := by
  have hi := i.isLt
  have hr := r.isLt
  have real : ∀ s t, ∀ d : Fin 257, ∃ x : ℝ, dot X b (headOf j) s t + R (ix2 (headOf j) d) = x := fun s t d => by
    obtain ⟨x, hx⟩ := dot_real X hX b (headOf j) s t
    obtain ⟨y, hy⟩ := hR (ix2 (headOf j) d)
    exact ⟨x + y, by rw [hx, hy, EReal.coe_add]⟩
  have hw : Cert.Softmax.Window (fun x : Fin 3 × Fin 256 => dot X b (headOf j) ⟨256 * i.val + r.val, by omega⟩ (keyPos i x.1 x.2)
      + biasAt R (headOf j) r ⟨256 * x.1.val + x.2.val, by omega⟩ + pen i x.1)
      (Cert.ReferenceIdeal.Attn.score X R b (headOf j) ⟨256 * i.val + r.val, by omega⟩) (fun x => keyPos i x.1 x.2) := by
    simp only [window_score]
    refine ⟨fun x hx => ?_, fun x y hx hy he => ?_, fun t ht => ?_⟩
    · have hc := (ite_ne_right_iff.1 hx).1
      rw [if_pos hc]
      unfold Cert.ReferenceIdeal.Attn.score
      have hxl := x.1.isLt
      have hkl := x.2.isLt
      rw [if_pos (by simp only [keyPos]; omega)]
      refine congrArg (_ + ·) (congrArg R (congrArg (ix2 _) (Fin.ext ?_)))
      simp only [Cert.KernelIdeal.Attn.dist, relDist, keyPos]
      split_ifs <;> omega
    · have hcx := (ite_ne_right_iff.1 hx).1
      have hcy := (ite_ne_right_iff.1 hy).1
      have he' := congrArg Fin.val he
      simp only [keyPos] at he'
      have h1 := x.1.isLt
      have h2 := x.2.isLt
      have h3 := y.1.isLt
      have h4 := y.2.isLt
      exact Prod.ext (Fin.ext (by omega)) (Fin.ext (by omega))
    · have hc := (ite_ne_right_iff.1 ht).1
      dsimp only at hc
      have htl := t.isLt
      refine ⟨(⟨(t.val + 512 - 256 * i.val) / 256, by omega⟩, ⟨(t.val + 512 - 256 * i.val) % 256, by omega⟩), ?_, Fin.ext (by simp only [keyPos]; omega)⟩
      rw [if_pos (by simp only; omega)]
      obtain ⟨x, hx⟩ := real ⟨256 * i.val + r.val, by omega⟩ (keyPos i ⟨(t.val + 512 - 256 * i.val) / 256, by omega⟩ ⟨(t.val + 512 - 256 * i.val) % 256, by omega⟩)
        (Cert.KernelIdeal.Attn.dist r ⟨256 * ((t.val + 512 - 256 * i.val) / 256) + (t.val + 512 - 256 * i.val) % 256, by omega⟩)
      rw [hx]
      exact EReal.coe_ne_bot x
  choose v hv using fun t : Fin 4096 => hX (ix3 b t (valLane j))
  unfold outAt
  rw [attend_sums]
  refine (hw.attend_eq (V := fun t => X (ix3 b t (valLane j))) (fun t => ?_) ⟨256 * i.val + r.val, by omega⟩ ?_ v hv)
  · unfold Cert.ReferenceIdeal.Attn.score
    split_ifs
    · obtain ⟨x, hx⟩ := real ⟨256 * i.val + r.val, by omega⟩ t (relDist ⟨256 * i.val + r.val, by omega⟩ t)
      rw [hx]; exact EReal.coe_ne_top x
    · exact bot_ne_top
  · unfold Cert.ReferenceIdeal.Attn.score
    rw [if_pos (by constructor <;> omega)]
    obtain ⟨x, hx⟩ := real ⟨256 * i.val + r.val, by omega⟩ ⟨256 * i.val + r.val, by omega⟩ (relDist ⟨256 * i.val + r.val, by omega⟩ ⟨256 * i.val + r.val, by omega⟩)
    rw [hx]; exact EReal.coe_ne_bot x

end Cert.Attn

end
-- ==== Proof.AttnFinite.lean ====
/- The precondition in words: every query, key, value and bias entry is a real number. With it the two arrays are the same. -/
module

public import proofs.«01_k».proof.Pre_finite
public import proofs.«01_k».proof.Proof.AttnEqual
public import proofs.«01_k».proof.Proof.AttnArray

@[expose] public section

set_option maxRecDepth 16384

noncomputable section

namespace Cert.Attn

open Idealize.ShloMosaic Idealize.ShloMosaic.TcCoe Cert.KernelIdeal
open Idealize.ShloMosaic.Pointwise
open Cert.KernelIdeal.Attn
open Cert.ReferenceIdeal.Attn (refAt out_read)

/-- The relations between shapes that the precondition states. -/
theorem finite_facts : Cert.Pre_finite.Facts where
  bitsLt_bf16_f32 := by decide
  bcast_S_S4x4096x1536 := by decide
  bcast_S_S8x257 := by decide

/-- An extended real whose absolute value is below the word of infinity is a real number. -/
theorem real_of_below (x : EReal) (h : FloatOps.cmpf (F := Ideal) (φ := .f32) .olt (FloatOps.absf (F := Ideal) (φ := .f32) x) (FloatOps.ofBits (F := Ideal) .f32 0x7F800000#32) = 1#1) :
    ∃ r : ℝ, x = r := by
  have e : Ideal.ofBits .f32 0x7F800000#32 = ⊤ := by simp [Ideal.ofBits, Ideal.ieee]
  have l : max x (-x) < ⊤ := by
    by_contra n
    have z : FloatOps.cmpf (F := Ideal) (φ := .f32) .olt (FloatOps.absf (F := Ideal) (φ := .f32) x) (FloatOps.ofBits (F := Ideal) .f32 0x7F800000#32) = 0#1 := by
      show Ideal.cmp .olt (max x (-x)) (Ideal.ofBits .f32 0x7F800000#32) = 0#1
      rw [e]
      simp [Ideal.cmp, n]
    exact absurd (h.symm.trans z) (by decide)
  induction x with
  | bot => simp at l
  | top => simp at l
  | coe r => exact ⟨r, rfl⟩

variable [Cert.Pre_finite.Facts]

theorem real_qkv (X : Vec Ideal S4x4096x1536 .bf16) (R : Vec Ideal S8x257 .f32) (h : (Cert.Pre_finite.fn (F := Ideal) X R).1 = fun _ => 1#1) :
    ∀ i, ∃ r : ℝ, (X i : EReal) = r := fun i =>
  real_of_below _ (congrFun h i)

theorem real_rel (X : Vec Ideal S4x4096x1536 .bf16) (R : Vec Ideal S8x257 .f32) (h : (Cert.Pre_finite.fn (F := Ideal) X R).2 = fun _ => 1#1) :
    ∀ i, ∃ r : ℝ, (R i : EReal) = r := fun i =>
  real_of_below _ (congrFun h i)

/-- The kernel's array is the reference's, where the arguments are real. -/
theorem arrays_equal (X : Vec Ideal S4x4096x1536 .bf16) (R : Vec Ideal S8x257 .f32) (hX : ∀ i, ∃ x : ℝ, (X i : EReal) = x) (hR : ∀ i, ∃ x : ℝ, (R i : EReal) = x) :
    outArr X R = Cert.ReferenceIdeal.Read.val_main_v58 (F := Ideal) X R := by
  funext y
  obtain ⟨b, s, j, rfl⟩ : ∃ (b : Fin 4) (s : Fin 4096) (j : Fin 512), y = ix3 b s j := ⟨y 0, y 1, y 2, by funext k; fin_cases k <;> rfl⟩
  refine Eq.trans ?_ (out_read X R b s j).symm
  have hs := s.isLt
  refine (equal X R hX hR b ⟨s.val / 256, by omega⟩ ⟨s.val % 256, by omega⟩ j).trans ?_
  exact congrArg (refAt X R b · j) (Fin.ext (Nat.div_add_mod s.val 256))

end Cert.Attn

end
-- ==== Proof.FfnMath.lean ====
/- One row of the feed-forward half step over the extended reals, and the two ways of writing its sigmoid and its long sum. -/
module

public import Idealize.ShloMosaic.PureOps.Ideal

@[expose] public section

noncomputable section

namespace Cert.FfnMath

open Idealize.ShloMosaic

/-- The literals 1024, 10⁻⁶ (rounded), 1/2 and 1. -/
abbrev width : EReal := Ideal.ofBits .f32 0x44800000#32
abbrev eps : EReal := Ideal.ofBits .f32 0x358637BD#32
abbrev half : EReal := Ideal.ofBits .f32 0x3F000000#32
abbrev one : EReal := Ideal.ofBits .f32 0x3F800000#32

theorem half_eq : half = ((1 / 2 : ℝ) : EReal) := by
  simp [half, Ideal.ofBits, Ideal.ieee]
  rw [← EReal.coe_mul]
  norm_num

theorem one_eq : one = ((1 : ℝ) : EReal) := by
  simp [one, Ideal.ofBits, Ideal.ieee]
  rw [← EReal.coe_mul]
  norm_num

/-- Half a hyperbolic tangent of the half plus a half is the sigmoid. -/
theorem sigmoid (x : EReal) : half * Ideal.tanh (half * x) + half = Ideal.div one (one + Ideal.exp (-x)) := by
  have e : Ideal.div one (one + Ideal.exp (-x)) = Ideal.logistic x := by rw [one_eq]; rfl
  rw [e, half_eq]
  induction x with
  | bot =>
    rw [EReal.coe_mul_bot_of_pos (by norm_num), Ideal.logistic_bot]
    show ((1 / 2 : ℝ) : EReal) * -1 + _ = 0
    rw [← EReal.coe_one, ← EReal.coe_neg, ← EReal.coe_mul, ← EReal.coe_add]
    norm_num
  | top =>
    rw [EReal.coe_mul_top_of_pos (by norm_num), Ideal.logistic_top]
    show ((1 / 2 : ℝ) : EReal) * 1 + _ = 1
    rw [← EReal.coe_one, ← EReal.coe_mul, ← EReal.coe_add]
    norm_num
  | coe r =>
    rw [Ideal.logistic_coe, ← EReal.coe_mul]
    show ((1 / 2 : ℝ) : EReal) * ((Real.tanh (1 / 2 * r) : ℝ) : EReal) + _ = _
    rw [← EReal.coe_mul, ← EReal.coe_add]
    refine congrArg _ ?_
    rw [Real.tanh_eq_sinh_div_cosh, Real.sinh_eq, Real.cosh_eq, show -r = -(1 / 2 * r) + -(1 / 2 * r) by ring, Real.exp_add]
    have p := Real.exp_pos (1 / 2 * r)
    rw [Real.exp_neg]
    have q : Real.exp (1 / 2 * r) + (Real.exp (1 / 2 * r))⁻¹ ≠ 0 := by positivity
    have q' : 1 + (Real.exp (1 / 2 * r))⁻¹ * (Real.exp (1 / 2 * r))⁻¹ ≠ 0 := by positivity
    field_simp
    ring

/-- The root mean square norm of a row. -/
def norm (x g : Fin 1024 → EReal) (k : Fin 1024) : EReal :=
  x k * Ideal.rsqrt (Ideal.div (∑ i, x i * x i) width + eps) * g k

/-- The gated activation of a hidden unit from the normed row. -/
def act (h : Fin 1024 → EReal) (wg wu : Fin 1024 → Fin 2816 → EReal) (f : Fin 2816) : EReal :=
  (∑ k, h k * wg k f) * Ideal.div one (one + Ideal.exp (-∑ k, h k * wg k f)) * ∑ k, h k * wu k f

/-- The half step of a row. -/
def step (x g : Fin 1024 → EReal) (wg wu : Fin 1024 → Fin 2816 → EReal) (wd : Fin 2816 → Fin 1024 → EReal) (j : Fin 1024) : EReal :=
  x j + half * ∑ f, act (norm x g) wg wu f * wd f j

/-- A sum over the hidden units in the kernel's four stretches. -/
theorem stretches (F : Fin 2816 → EReal) :
    ∑ f, F f = (((∑ f : Fin 768, F ⟨0 + f.val, by omega⟩) + ∑ f : Fin 768, F ⟨768 + f.val, by omega⟩) + ∑ f : Fin 768, F ⟨1536 + f.val, by omega⟩)
      + ∑ f : Fin 512, F ⟨2304 + f.val, by omega⟩ := by
  rw [show ∑ f, F f = ∑ f : Fin (768 + 768 + 768 + 512), F f from rfl, Fin.sum_univ_add, Fin.sum_univ_add, Fin.sum_univ_add]
  simp only [Nat.zero_add]
  rfl

end Cert.FfnMath

end
-- ==== Proof.FfnBlock.lean ====
/- One block of 512 rows of the feed-forward half step as a composition of vector operations, and its value at an element. The
   three feed-forward kernels print this composition, each in its own place. -/
module

public import proofs.«01_k».proof.Proof.FfnMath
public import proofs.«01_k».proof.Proof.Gen.FinalIdeal.Frame
public import Idealize.ShloMosaic.Lib.Tactic
public import Idealize.ShloMosaic.Lib.Pointwise
public import Idealize.ShloMosaic.Lib.Pipeline.ValueKit.Geometry

@[expose] public section

set_option maxRecDepth 16384

noncomputable section

namespace Cert.FfnRows

open Idealize.ShloMosaic Idealize.ShloMosaic.TcCoe Cert.FinalIdeal Cert.FinalIdeal.Gen
open Idealize.ShloMosaic.Pointwise Idealize.ShloMosaic.Pipeline

section
variable {F : FTy → Type} [FloatOps F]

/-- The root mean square norm of each row. -/
def normed (x : FVec F S512x1024 .f32) (g : Vec F S1x1024 .f32) : FVec F S512x1024 .f32 :=
  mulf (mulf x (broadcastTo S512x1024 (rsqrt (addf (divf
    (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024)

/-- The gate times its sigmoid times the other projection. -/
def gated {s : Shape} (a b : FVec F s .f32) : FVec F s .bf16 :=
  truncf .bf16 (mulf (mulf a (addf (mulf (broadcast s (Scalar.ofBits .f32 0x3F000000#32)) (tanh (mulf (broadcast s (Scalar.ofBits .f32 0x3F000000#32)) a)))
    (broadcast s (Scalar.ofBits .f32 0x3F000000#32)))) b) bitsLt_bf16_f32

/-- A stretch of 768 hidden units. -/
def long (h : FVec F S512x1024 .bf16) (wg wu : Vec F S1024x768 .bf16) (wd : Vec F S768x1024 .bf16) : FVec F S512x1024 .f32 :=
  matmul dot_S512x768_S768x1024_S512x1024_1_0_0_1_n_n none
    (gated (matmul dot_S512x1024_S1024x768_S512x768_1_0_0_1_n_n none h wg (constant S512x768 .f32 0x00000000#32))
      (matmul dot_S512x1024_S1024x768_S512x768_1_0_0_1_n_n none h wu (constant S512x768 .f32 0x00000000#32))) wd
    (constant S512x1024 .f32 0x00000000#32)

/-- The last stretch, of 512 hidden units. -/
def short (h : FVec F S512x1024 .bf16) (wg wu : Vec F S1024x512 .bf16) (wd : Vec F S512x1024 .bf16) : FVec F S512x1024 .f32 :=
  matmul dot_S512x512_S512x1024_S512x1024_1_0_0_1_n_n none
    (gated (matmul dot_S512x1024_S1024x512_S512x512_1_0_0_1_n_n none h wg (constant S512x512 .f32 0x00000000#32))
      (matmul dot_S512x1024_S1024x512_S512x512_1_0_0_1_n_n none h wu (constant S512x512 .f32 0x00000000#32))) wd
    (constant S512x1024 .f32 0x00000000#32)

/-- The half step of a block of rows. -/
def stepped (x : FVec F S512x1024 .f32) (g : Vec F S1x1024 .f32) (wg wu : Vec F S1024x2816 .bf16) (wd : Vec F S2816x1024 .bf16) : FVec F S512x1024 .f32 :=
  have h : FVec F S512x1024 .bf16 := truncf .bf16 (normed x g) bitsLt_bf16_f32
  addf x (mulf (broadcast S512x1024 (Scalar.ofBits .f32 0x3F000000#32))
    (addf (addf (addf (long h (View.ld wg r0_2) (View.ld wu r0_2) (View.ld wd r0_3)) (long h (View.ld wg r0_4) (View.ld wu r0_4) (View.ld wd r0_5)))
      (long h (View.ld wg r0_6) (View.ld wu r0_6) (View.ld wd r0_7))) (short h (View.ld wg r0_8) (View.ld wu r0_8) (View.ld wd r0_9))))

end

theorem normed_read (x : FVec Ideal S512x1024 .f32) (g : Vec Ideal S1x1024 .f32) (r : Fin 512) (k : Fin 1024) :
    normed (F := Ideal) x g (ix2 r k) = FfnMath.norm (fun k => x (ix2 r k)) (fun k => g (ix2 0 k)) k := by
  pointwise [normed]
  rfl

theorem gated_read {s : Shape} (a b : FVec Ideal s .f32) (i : s.Idx) :
    gated (F := Ideal) a b i = a i * Ideal.div FfnMath.one (FfnMath.one + Ideal.exp (-a i)) * b i :=
  congrArg (a i * · * b i) (FfnMath.sigmoid (a i))

theorem long_read (h : FVec Ideal S512x1024 .bf16) (wg wu : Vec Ideal S1024x768 .bf16) (wd : Vec Ideal S768x1024 .bf16)
    (r : Fin 512) (j : Fin 1024) :
    long (F := Ideal) h wg wu wd (ix2 r j) = ∑ f : Fin 768, ((∑ k, h (ix2 r k) * wg (ix2 k f))
      * Ideal.div FfnMath.one (FfnMath.one + Ideal.exp (-∑ k, h (ix2 r k) * wg (ix2 k f))) * ∑ k, h (ix2 r k) * wu (ix2 k f)) * wd (ix2 f j) := by
  pointwise [long, gated_read]

theorem short_read (h : FVec Ideal S512x1024 .bf16) (wg wu : Vec Ideal S1024x512 .bf16) (wd : Vec Ideal S512x1024 .bf16)
    (r : Fin 512) (j : Fin 1024) :
    short (F := Ideal) h wg wu wd (ix2 r j) = ∑ f : Fin 512, ((∑ k, h (ix2 r k) * wg (ix2 k f))
      * Ideal.div FfnMath.one (FfnMath.one + Ideal.exp (-∑ k, h (ix2 r k) * wg (ix2 k f))) * ∑ k, h (ix2 r k) * wu (ix2 k f)) * wd (ix2 f j) := by
  pointwise [short, gated_read]

/-- A load of a stretch of columns. -/
theorem ld_cols {n o : Nat} (ho : o + n ≤ 2816) (x : Vec Ideal S1024x2816 .bf16)
    (inb : ∀ a, (![0, o] : Fin 2 → Nat) a + (⟨2, ![1024, n]⟩ : Shape).size a ≤ S1024x2816.size a) (k : Fin 1024) (f : Fin n) :
    View.ld x (Rect.unit (s := S1024x2816) ![0, o] (⟨2, ![1024, n]⟩ : Shape).size inb) (ix2 k f) = x (ix2 k ⟨o + f.val, by omega⟩) := by
  refine congrArg x (funext fun a => Fin.ext ((ValueKit.rect_emb_unit_val _ _ _ _ _).trans ?_))
  match a with
  | ⟨0, _⟩ => exact Nat.zero_add _
  | ⟨1, _⟩ => rfl

/-- A load of a stretch of rows. -/
theorem ld_rows {n o : Nat} (ho : o + n ≤ 2816) (x : Vec Ideal S2816x1024 .bf16)
    (inb : ∀ a, (![o, 0] : Fin 2 → Nat) a + (⟨2, ![n, 1024]⟩ : Shape).size a ≤ S2816x1024.size a) (f : Fin n) (j : Fin 1024) :
    View.ld x (Rect.unit (s := S2816x1024) ![o, 0] (⟨2, ![n, 1024]⟩ : Shape).size inb) (ix2 f j) = x (ix2 ⟨o + f.val, by omega⟩ j) := by
  refine congrArg x (funext fun a => Fin.ext ((ValueKit.rect_emb_unit_val _ _ _ _ _).trans ?_))
  match a with
  | ⟨0, _⟩ => rfl
  | ⟨1, _⟩ => exact Nat.zero_add _

/-- Row `r` of an array, as a function of the column. -/
abbrev row {n : Nat} (x : Vec Ideal (⟨2, ![n, 1024]⟩ : Shape) .f32) (r : Fin n) : Fin 1024 → EReal := fun k => x (ix2 r k)

/-- The three weight arrays by their coordinates. -/
abbrev up (w : Vec Ideal S1024x2816 .bf16) : Fin 1024 → Fin 2816 → EReal := fun k f => w (ix2 k f)
abbrev down (w : Vec Ideal S2816x1024 .bf16) : Fin 2816 → Fin 1024 → EReal := fun f j => w (ix2 f j)

/-- A stretch of hidden units from a row's normed entries and the weights' stretches. -/
theorem act_stretch {n : Nat} (o : Nat) (ho : o + n ≤ 2816) (h e : Fin 1024 → EReal) (wg wu : Fin 1024 → Fin 2816 → EReal)
    (wd : Fin 2816 → Fin 1024 → EReal) (a b : Fin 1024 → Fin n → EReal) (d : Fin n → Fin 1024 → EReal) (he : ∀ k, e k = h k)
    (ha : ∀ k f, a k f = wg k ⟨o + f.val, by omega⟩) (hb : ∀ k f, b k f = wu k ⟨o + f.val, by omega⟩)
    (hd : ∀ f j, d f j = wd ⟨o + f.val, by omega⟩ j) (j : Fin 1024) :
    ∑ f : Fin n, ((∑ k, e k * a k f) * Ideal.div FfnMath.one (FfnMath.one + Ideal.exp (-∑ k, e k * a k f)) * ∑ k, e k * b k f) * d f j
      = ∑ f : Fin n, FfnMath.act h wg wu ⟨o + f.val, by omega⟩ * wd ⟨o + f.val, by omega⟩ j := by
  simp only [he, ha, hb, hd]
  rfl

/-- A stretch of 768 hidden units, its weights being stretches of the weight arrays. -/
theorem long_stretch (o : Nat) (ho : o + 768 ≤ 2816) (h : FVec Ideal S512x1024 .bf16) (e : Fin 1024 → EReal) (r : Fin 512) (hn : ∀ k, h (ix2 r k) = e k)
    (wg wu : Vec Ideal S1024x2816 .bf16) (wd : Vec Ideal S2816x1024 .bf16) (a b : Vec Ideal S1024x768 .bf16) (d : Vec Ideal S768x1024 .bf16)
    (ha : ∀ (k : Fin 1024) (f : Fin 768), a (ix2 k f) = wg (ix2 k ⟨o + f.val, by omega⟩))
    (hb : ∀ (k : Fin 1024) (f : Fin 768), b (ix2 k f) = wu (ix2 k ⟨o + f.val, by omega⟩))
    (hd : ∀ (f : Fin 768) (j : Fin 1024), d (ix2 f j) = wd (ix2 ⟨o + f.val, by omega⟩ j)) (j : Fin 1024) :
    long (F := Ideal) h a b d (ix2 r j)
      = ∑ f : Fin 768, FfnMath.act e (up wg) (up wu) ⟨o + f.val, by omega⟩ * down wd ⟨o + f.val, by omega⟩ j := by
  rw [long_read]
  exact act_stretch (n := 768) o ho e (fun k => h (ix2 r k)) (up wg) (up wu) (down wd) (fun k f => a (ix2 k f)) (fun k f => b (ix2 k f))
    (fun f j => d (ix2 f j)) hn ha hb hd j

/-- The last stretch of 512 hidden units, its weights being stretches of the weight arrays. -/
theorem short_stretch (o : Nat) (ho : o + 512 ≤ 2816) (h : FVec Ideal S512x1024 .bf16) (e : Fin 1024 → EReal) (r : Fin 512) (hn : ∀ k, h (ix2 r k) = e k)
    (wg wu : Vec Ideal S1024x2816 .bf16) (wd : Vec Ideal S2816x1024 .bf16) (a b : Vec Ideal S1024x512 .bf16) (d : Vec Ideal S512x1024 .bf16)
    (ha : ∀ (k : Fin 1024) (f : Fin 512), a (ix2 k f) = wg (ix2 k ⟨o + f.val, by omega⟩))
    (hb : ∀ (k : Fin 1024) (f : Fin 512), b (ix2 k f) = wu (ix2 k ⟨o + f.val, by omega⟩))
    (hd : ∀ (f : Fin 512) (j : Fin 1024), d (ix2 f j) = wd (ix2 ⟨o + f.val, by omega⟩ j)) (j : Fin 1024) :
    short (F := Ideal) h a b d (ix2 r j)
      = ∑ f : Fin 512, FfnMath.act e (up wg) (up wu) ⟨o + f.val, by omega⟩ * down wd ⟨o + f.val, by omega⟩ j := by
  rw [short_read]
  exact act_stretch (n := 512) o ho e (fun k => h (ix2 r k)) (up wg) (up wu) (down wd) (fun k f => a (ix2 k f)) (fun k f => b (ix2 k f))
    (fun f j => d (ix2 f j)) hn ha hb hd j

theorem stepped_read (x : FVec Ideal S512x1024 .f32) (g : Vec Ideal S1x1024 .f32) (wg wu : Vec Ideal S1024x2816 .bf16)
    (wd : Vec Ideal S2816x1024 .bf16) (r : Fin 512) (j : Fin 1024) :
    stepped (F := Ideal) x g wg wu wd (ix2 r j) = FfnMath.step (row x r) (row g 0) (up wg) (up wu) (down wd) j := by
  have hn : ∀ k, truncf (F := Ideal) .bf16 (normed x g) bitsLt_bf16_f32 (ix2 r k) = FfnMath.norm (row x r) (row g 0) k := fun k => normed_read x g r k
  unfold stepped FfnMath.step
  generalize truncf (F := Ideal) .bf16 (normed x g) bitsLt_bf16_f32 = h at hn ⊢
  rw [FfnMath.stretches]
  refine congrArg (x (ix2 r j) + FfnMath.half * ·) ?_
  refine congrArg₂ (· + ·) (congrArg₂ (· + ·) (congrArg₂ (· + ·) ?_ ?_) ?_) ?_
  · exact long_stretch 0 (by omega) h _ r hn wg wu wd _ _ _ (ld_cols (n := 768) (o := 0) (by omega) wg _)
      (ld_cols (n := 768) (o := 0) (by omega) wu _) (ld_rows (n := 768) (o := 0) (by omega) wd _) j
  · exact long_stretch 768 (by omega) h _ r hn wg wu wd _ _ _ (ld_cols (n := 768) (o := 768) (by omega) wg _)
      (ld_cols (n := 768) (o := 768) (by omega) wu _) (ld_rows (n := 768) (o := 768) (by omega) wd _) j
  · exact long_stretch 1536 (by omega) h _ r hn wg wu wd _ _ _ (ld_cols (n := 768) (o := 1536) (by omega) wg _)
      (ld_cols (n := 768) (o := 1536) (by omega) wu _) (ld_rows (n := 768) (o := 1536) (by omega) wd _) j
  · exact short_stretch 2304 (by omega) h _ r hn wg wu wd _ _ _ (ld_cols (n := 512) (o := 2304) (by omega) wg _)
      (ld_cols (n := 512) (o := 2304) (by omega) wu _) (ld_rows (n := 512) (o := 2304) (by omega) wd _) j

end Cert.FfnRows

end
-- ==== Proof.FinalArray.lean ====
/- The last feed-forward call's array: each row of the result is the normed half step of the row. -/
module

public import proofs.«01_k».proof.Proof.FfnBlock
public import proofs.«01_k».proof.Proof.Gen.FinalIdeal.Value
public import Idealize.ShloMosaic.Lib.Pipeline.ValueKit.Point

@[expose] public section

set_option maxRecDepth 16384

noncomputable section

namespace Cert.FinalIdeal.Final

open Idealize.ShloMosaic Idealize.ShloMosaic.TcCoe Cert.FinalIdeal Cert.FinalIdeal.Gen Cert.FfnRows
open Idealize.ShloMosaic.Pointwise

/-- A block's store is the composition of the half step and the norm. -/
theorem out_eq (x0 : Vec Ideal S512x1024 .f32) (x1 : Vec Ideal S1x1024 .f32) (x2 x3 : Vec Ideal S1024x2816 .bf16) (x4 : Vec Ideal S2816x1024 .bf16)
    (x5 : Vec Ideal S1x1024 .f32) : out0_6 x0 x1 x2 x3 x4 x5 = normed (stepped x0 x1 x2 x3 x4) x5 := by
  unfold out0_6 k0_pay8
  have e0 : View.ld x0 r0_0 = x0 := View.ld_unit_lit (S := S512x1024) _ x0 (by decide)
  have e1 : View.ld x1 r0_1 = x1 := View.ld_unit_lit (S := S1x1024) _ x1 (by decide)
  have e5 : View.ld x5 r0_1 = x5 := View.ld_unit_lit (S := S1x1024) _ x5 (by decide)
  rw [e0, e1, e5]
  exact View.canon_cons_unit_lit (S := S512x1024) _ _ _ (by decide)

variable (m : (ℓ : Loc nD τ sig) → Buf (Elt Ideal) ℓ)

/-- The result from the arguments. -/
def outArr (x : Vec Ideal S16384x1024 .f32) (g : Vec Ideal S1x1024 .f32) (wg wu : Vec Ideal S1024x2816 .bf16) (wd : Vec Ideal S2816x1024 .bf16)
    (gf : Vec Ideal S1x1024 .f32) : Vec Ideal S16384x1024 .f32 := fun y =>
  FfnMath.norm (FfnMath.step (row x (y 0)) (row g 0) (up wg) (up wu) (down wd)) (row gf 0) (y 1)

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![(grid0.coords t 0).val, 0] := (by decide +kernel : ∀ t : Fin grid0.N, _)

abbrev blk (t : Fin cfg0.N) : Fin 32 := grid0.coords t 0

theorem x_read (c : Dev nD) (t : Fin cfg0.N) (r : Fin 512) (k : Fin 1024) :
    (iblk m c 0 t : Vec Ideal S512x1024 .f32) (ix2 r k) = m ((c : Thread nD τ).loc main_arg0) (ix2 ⟨512 * (blk t).val + r.val, by omega⟩ k) := by
  blk_ext! [iblk, V, ix_0 t]
  all_goals simp only [blk] <;> omega

theorem g_read (c : Dev nD) (t : Fin cfg0.N) (k : Fin 1024) :
    (iblk m c 1 t : Vec Ideal S1x1024 .f32) (ix2 0 k) = m ((c : Thread nD τ).loc main_arg1) (ix2 0 k) := by
  blk_ext! [iblk, V, ix_1 t]

theorem wg_read (c : Dev nD) (t : Fin cfg0.N) (k : Fin 1024) (f : Fin 2816) :
    (iblk m c 2 t : Vec Ideal S1024x2816 .bf16) (ix2 k f) = m ((c : Thread nD τ).loc main_arg2) (ix2 k f) := by
  blk_ext! [iblk, V, ix_2 t]

theorem wu_read (c : Dev nD) (t : Fin cfg0.N) (k : Fin 1024) (f : Fin 2816) :
    (iblk m c 3 t : Vec Ideal S1024x2816 .bf16) (ix2 k f) = m ((c : Thread nD τ).loc main_arg3) (ix2 k f) := by
  blk_ext! [iblk, V, ix_3 t]

theorem wd_read (c : Dev nD) (t : Fin cfg0.N) (f : Fin 2816) (j : Fin 1024) :
    (iblk m c 4 t : Vec Ideal S2816x1024 .bf16) (ix2 f j) = m ((c : Thread nD τ).loc main_arg4) (ix2 f j) := by
  blk_ext! [iblk, V, ix_4 t]

theorem gf_read (c : Dev nD) (t : Fin cfg0.N) (k : Fin 1024) :
    (iblk m c 5 t : Vec Ideal S1x1024 .f32) (ix2 0 k) = m ((c : Thread nD τ).loc main_arg5) (ix2 0 k) := by
  blk_ext! [iblk, V, ix_5 t]

/-- A block's value from its inputs' reads. -/
theorem block_of_reads (X : Vec Ideal S16384x1024 .f32) (G GF : Vec Ideal S1x1024 .f32) (WG WU : Vec Ideal S1024x2816 .bf16) (WD : Vec Ideal S2816x1024 .bf16)
    (x0 : Vec Ideal S512x1024 .f32) (x1 x5 : Vec Ideal S1x1024 .f32) (x2 x3 : Vec Ideal S1024x2816 .bf16) (x4 : Vec Ideal S2816x1024 .bf16)
    (i : Fin 32) (h0 : ∀ r k, x0 (ix2 r k) = X (ix2 ⟨512 * i.val + r.val, by omega⟩ k)) (h1 : ∀ k, x1 (ix2 0 k) = G (ix2 0 k))
    (h2 : ∀ k f, x2 (ix2 k f) = WG (ix2 k f)) (h3 : ∀ k f, x3 (ix2 k f) = WU (ix2 k f)) (h4 : ∀ f j, x4 (ix2 f j) = WD (ix2 f j))
    (h5 : ∀ k, x5 (ix2 0 k) = GF (ix2 0 k)) (y : S512x1024.Idx) (e : S16384x1024.Idx) (e0 : (e 0).val = 512 * i.val + (y 0).val)
    (e1 : (e 1).val = (y 1).val) : out0_6 (F := Ideal) x0 x1 x2 x3 x4 x5 y = outArr X G WG WU WD GF e := by
  obtain ⟨r, k, rfl⟩ : ∃ (r : Fin 512) (k : Fin 1024), y = ix2 r k := ⟨y 0, y 1, by funext a; fin_cases a <;> rfl⟩
  have f0 : e 0 = (⟨512 * i.val + r.val, by omega⟩ : Fin 16384) := Fin.ext e0
  have f1 : e 1 = k := Fin.ext e1
  unfold outArr
  rw [out_eq, normed_read, f0, f1]
  simp only [stepped_read]
  rw [show row x0 r = row X ⟨512 * i.val + r.val, by omega⟩ from funext (h0 r), show row x1 0 = row G 0 from funext h1,
    show up x2 = up WG from funext₂ h2, show up x3 = up WU from funext₂ h3, show down x4 = down WD from funext₂ h4,
    show (fun k => x5 (ix2 0 k)) = row GF 0 from funext h5]

/-- The result array. -/
theorem arr_eq (c : Dev nD) : (dats m 0 c).arrAt 6 cfg0.N = outArr (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine block_of_reads _ _ _ _ _ _ _ _ _ _ _ _ (blk t) (x_read m c t) (g_read m c t) (wg_read m c t) (wu_read m c t) (wd_read m c t) (gf_read m c t) y _ ?_ ?_
  · blk_simp [ix_6 t]
    simp only [blk]
    omega
  · blk_simp [ix_6 t]

end Cert.FinalIdeal.Final

end
-- ==== Proof.FinalRef.lean ====
/- The reference's half step and norm at an index, and the last feed-forward call's reference. -/
module

public import proofs.«01_k».proof.Proof.FinalArray
public import proofs.«01_k».proof.Proof.Gen.FinalReferenceIdeal.Read

@[expose] public section

set_option maxRecDepth 16384

noncomputable section

namespace Cert.FinalReferenceIdeal.Rows

open Idealize.ShloMosaic Idealize.ShloMosaic.TcCoe Cert.FinalReferenceIdeal Cert.FinalReferenceIdeal.Read Cert.FinalReferenceIdeal.Gen
open Idealize.ShloMosaic.Pointwise
open Cert.FfnRows (row up down)

variable (X : Vec Ideal S16384x1024 .f32) (G GF : Vec Ideal S1x1024 .f32) (WG WU : Vec Ideal S1024x2816 .bf16) (WD : Vec Ideal S2816x1024 .bf16)

theorem zero_eq : FloatOps.ofBits (F := Ideal) .f32 0x00000000#32 = (0 : EReal) := by
  simp [FloatOps.ofBits, Ideal.ofBits, Ideal.ieee]

theorem squares_read (r : Fin 16384) : val_main_v1 (F := Ideal) X (ix1 r) = ∑ k : Fin 1024, X (ix2 r k) * X (ix2 r k) := by
  rw [val_main_v1_apply, val_main_cst_apply, zero_eq]
  refine (zero_add _).trans (Finset.sum_congr rfl fun k _ => ?_)
  have e : idx_main_v1 (ix1 r) k = ix2 r k := by funext a; fin_cases a <;> rfl
  rw [e]
  rfl

theorem normed_read (r : Fin 16384) (k : Fin 1024) : val_main_v11 (F := Ideal) X G (ix2 r k) = FfnMath.norm (row X r) (row G 0) k := by
  unfold val_main_v11 val_main_v10 val_main_v9 val_main_v8 val_main_v7 val_main_v6 val_main_v5 val_main_cst_1 val_main_v4 val_main_v3 val_main_cst_0 val_main_v2
  generalize hy : val_main_v1 (F := Ideal) X = y
  have hs : y (ix1 r) = ∑ k : Fin 1024, X (ix2 r k) * X (ix2 r k) := hy ▸ squares_read X r
  pointwise []
  rw [hs]
  rfl

theorem gate_read (r : Fin 16384) (f : Fin 2816) :
    val_main_v15 (F := Ideal) X G WG (ix2 r f) = ∑ k, FfnMath.norm (row X r) (row G 0) k * up WG k f := by
  rw [val_main_v15_apply]
  refine Finset.sum_congr rfl fun k _ => ?_
  have e : lidx_main_v15 (ix2 r f) k = ix2 r k := by funext a; fin_cases a <;> rfl
  have e' : ridx_main_v15 (ix2 r f) k = ix2 k f := by funext a; fin_cases a <;> rfl
  rw [e, e', normed_read]
  rfl

theorem up_read (r : Fin 16384) (f : Fin 2816) :
    val_main_v17 (F := Ideal) X G WU (ix2 r f) = ∑ k, FfnMath.norm (row X r) (row G 0) k * up WU k f :=
  gate_read X G WU r f

theorem act_read (r : Fin 16384) (f : Fin 2816) :
    val_main_v18 (F := Ideal) X G WG WU (ix2 r f) = FfnMath.act (FfnMath.norm (row X r) (row G 0)) (up WG) (up WU) f := by
  unfold val_main_v18 val_main_v16 val_main_call0_v5 val_main_call0_v4 val_main_call0_cst_0 val_main_call0_v3 val_main_call0_v2 val_main_call0_cst
    val_main_call0_v1 val_main_call0_v0
  generalize hy : val_main_v15 (F := Ideal) X G WG = y
  generalize hz : val_main_v17 (F := Ideal) X G WU = z
  have ey : y (ix2 r f) = _ := hy ▸ gate_read X G WG r f
  have ez : z (ix2 r f) = _ := hz ▸ up_read X G WU r f
  pointwise []
  rw [ey, ez]
  unfold FfnMath.act
  rw [FfnMath.one_eq]
  rfl

theorem step_read (r : Fin 16384) (j : Fin 1024) :
    val_main_v22 (F := Ideal) X G WG WU WD (ix2 r j) = FfnMath.step (row X r) (row G 0) (up WG) (up WU) (down WD) j := by
  have hd : val_main_v19 (F := Ideal) X G WG WU WD (ix2 r j)
      = ∑ f, FfnMath.act (FfnMath.norm (row X r) (row G 0)) (up WG) (up WU) f * down WD f j := by
    rw [val_main_v19_apply]
    refine Finset.sum_congr rfl fun f _ => ?_
    have e : lidx_main_v19 (ix2 r j) f = ix2 r f := by funext a; fin_cases a <;> rfl
    have e' : ridx_main_v19 (ix2 r j) f = ix2 f j := by funext a; fin_cases a <;> rfl
    rw [e, e', act_read]
    rfl
  unfold val_main_v22 val_main_v21 val_main_v20 val_main_cst_2
  generalize val_main_v19 (F := Ideal) X G WG WU WD = y at hd ⊢
  pointwise []
  rw [hd]
  rfl

/-- The norm of an array and the last norm are one function. -/
theorem last_eq : val_main_v34 (F := Ideal) X G WG WU WD GF = val_main_v11 (F := Ideal) (val_main_v22 (F := Ideal) X G WG WU WD) GF := rfl

/-- The reference's result is the kernel's. -/
theorem result_eq : val_main_v34 (F := Ideal) X G WG WU WD GF = Cert.FinalIdeal.Final.outArr X G WG WU WD GF := by
  funext y
  obtain ⟨r, j, rfl⟩ : ∃ (r : Fin 16384) (j : Fin 1024), y = ix2 r j := ⟨y 0, y 1, by funext a; fin_cases a <;> rfl⟩
  rw [last_eq, normed_read]
  exact congrArg (FfnMath.norm · _ _) (funext fun k => step_read X G WG WU WD r k)

end Cert.FinalReferenceIdeal.Rows

end
-- ==== Proof.FfnArray.lean ====
/- The feed-forward call's arrays: the half step of each row, and the next layer's weights in the narrow type. -/
module

public import proofs.«01_k».proof.Proof.FinalArray
public import proofs.«01_k».proof.Proof.Gen.FfnIdeal.Value
public import Idealize.ShloMosaic.Lib.Pipeline.ValueKit.Point

@[expose] public section

set_option maxRecDepth 16384

noncomputable section

namespace Cert.FfnIdeal.Array

open Idealize.ShloMosaic Idealize.ShloMosaic.TcCoe Cert.FfnIdeal Cert.FfnIdeal.Gen
open Idealize.ShloMosaic.Pointwise
open Cert.FfnRows (row up down stepped stepped_read)

variable (m : (ℓ : Loc nD τ sig) → Buf (Elt Ideal) ℓ)

/-- A block's first store is the half step. -/
theorem out_eq (x0 : Vec Ideal S512x1024 .f32) (x1 x5 : Vec Ideal S1x1024 .f32) (x2 x3 : Vec Ideal S1024x2816 .bf16) (x4 : Vec Ideal S2816x1024 .bf16)
    (x6 x7 : Vec Ideal S1x1x32x2816 .f32) (x8 : Vec Ideal S1x1x176x1024 .f32) : out0_9 x0 x1 x2 x3 x4 x5 x6 x7 x8 = stepped x0 x1 x2 x3 x4 := by
  unfold out0_9 k0_pay8
  have e0 : View.ld x0 r0_4 = x0 := View.ld_unit_lit (S := S512x1024) _ x0 (by decide)
  have e1 : View.ld x1 r0_5 = x1 := View.ld_unit_lit (S := S1x1024) _ x1 (by decide)
  rw [e0, e1]
  exact View.canon_cons_unit_lit (S := S512x1024) _ _ _ (by decide)

/-- The first result from the arguments. -/
def outArr (x : Vec Ideal S16384x1024 .f32) (g : Vec Ideal S1x1024 .f32) (wg wu : Vec Ideal S1024x2816 .bf16) (wd : Vec Ideal S2816x1024 .bf16) :
    Vec Ideal S16384x1024 .f32 := fun y => FfnMath.step (row x (y 0)) (row g 0) (up wg) (up wu) (down wd) (y 1)

/-- The next step's weights: entry `i`, `l` of the stacked arrays. -/
def nextUp (w : Vec Ideal S4x2x1024x2816 .f32) (i : Fin 4) (l : Fin 2) : Vec Ideal S1024x2816 .bf16 := fun y => w (ix4 i l (y 0) (y 1))
def nextDown (w : Vec Ideal S4x2x2816x1024 .f32) (i : Fin 4) (l : Fin 2) : Vec Ideal S2816x1024 .bf16 := fun y => w (ix4 i l (y 0) (y 1))

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_6 : ∀ t : Fin cfg0.N, win0_6.index t = ![0, 1, (grid0.coords t 0).val, 0] := (by decide +kernel : ∀ t : Fin grid0.N, _)
theorem ix_7 : ∀ t : Fin cfg0.N, win0_7.index t = ![0, 1, (grid0.coords t 0).val, 0] := (by decide +kernel : ∀ t : Fin grid0.N, _)
theorem ix_8 : ∀ t : Fin cfg0.N, win0_8.index t = ![0, 1, (grid0.coords t 0).val / 2, 0] := (by decide +kernel : ∀ t : Fin grid0.N, _)
theorem ix_9 : ∀ t : Fin cfg0.N, win0_9.index t = ![(grid0.coords t 0).val, 0] := (by decide +kernel : ∀ t : Fin grid0.N, _)
theorem ix_10 : ∀ t : Fin cfg0.N, win0_10.index t = ![(grid0.coords t 0).val, 0] := (by decide +kernel : ∀ t : Fin grid0.N, _)
theorem ix_11 : ∀ t : Fin cfg0.N, win0_11.index t = ![(grid0.coords t 0).val, 0] := (by decide +kernel : ∀ t : Fin grid0.N, _)
theorem ix_12 : ∀ t : Fin cfg0.N, win0_12.index t = ![(grid0.coords t 0).val / 2, 0] := (by decide +kernel : ∀ t : Fin grid0.N, _)

abbrev blk (t : Fin cfg0.N) : Fin 32 := grid0.coords t 0

theorem x_read (c : Dev nD) (t : Fin cfg0.N) (r : Fin 512) (k : Fin 1024) :
    (iblk m c 0 t : Vec Ideal S512x1024 .f32) (ix2 r k) = m ((c : Thread nD τ).loc main_arg0) (ix2 ⟨512 * (blk t).val + r.val, by omega⟩ k) := by
  blk_ext! [iblk, V, ix_0 t]
  all_goals simp only [blk] <;> omega

theorem g_read (c : Dev nD) (t : Fin cfg0.N) (k : Fin 1024) :
    (iblk m c 1 t : Vec Ideal S1x1024 .f32) (ix2 0 k) = m ((c : Thread nD τ).loc main_arg1) (ix2 0 k) := by
  blk_ext! [iblk, V, ix_1 t]

theorem wg_read (c : Dev nD) (t : Fin cfg0.N) (k : Fin 1024) (f : Fin 2816) :
    (iblk m c 2 t : Vec Ideal S1024x2816 .bf16) (ix2 k f) = m ((c : Thread nD τ).loc main_arg2) (ix2 k f) := by
  blk_ext! [iblk, V, ix_2 t]

theorem wu_read (c : Dev nD) (t : Fin cfg0.N) (k : Fin 1024) (f : Fin 2816) :
    (iblk m c 3 t : Vec Ideal S1024x2816 .bf16) (ix2 k f) = m ((c : Thread nD τ).loc main_arg3) (ix2 k f) := by
  blk_ext! [iblk, V, ix_3 t]

theorem wd_read (c : Dev nD) (t : Fin cfg0.N) (f : Fin 2816) (j : Fin 1024) :
    (iblk m c 4 t : Vec Ideal S2816x1024 .bf16) (ix2 f j) = m ((c : Thread nD τ).loc main_arg4) (ix2 f j) := by
  blk_ext! [iblk, V, ix_4 t]

theorem ng_read (c : Dev nD) (t : Fin cfg0.N) (r : Fin 32) (f : Fin 2816) :
    (iblk m c 6 t : Vec Ideal S1x1x32x2816 .f32) (ix4 0 0 r f) = m ((c : Thread nD τ).loc main_arg6) (ix4 0 1 ⟨32 * (blk t).val + r.val, by omega⟩ f) := by
  blk_ext! [iblk, V, ix_6 t]
  all_goals simp only [blk] <;> omega

theorem nu_read (c : Dev nD) (t : Fin cfg0.N) (r : Fin 32) (f : Fin 2816) :
    (iblk m c 7 t : Vec Ideal S1x1x32x2816 .f32) (ix4 0 0 r f) = m ((c : Thread nD τ).loc main_arg7) (ix4 0 1 ⟨32 * (blk t).val + r.val, by omega⟩ f) := by
  blk_ext! [iblk, V, ix_7 t]
  all_goals simp only [blk] <;> omega

theorem nd_read (c : Dev nD) (t : Fin cfg0.N) (r : Fin 176) (f : Fin 1024) :
    (iblk m c 8 t : Vec Ideal S1x1x176x1024 .f32) (ix4 0 0 r f)
      = m ((c : Thread nD τ).loc main_arg8) (ix4 0 1 ⟨176 * ((blk t).val / 2) + r.val, by omega⟩ f) := by
  blk_ext! [iblk, V, ix_8 t]
  all_goals simp only [blk] <;> omega

/-- A block of the first result from its inputs' reads. -/
theorem block_of_reads (X : Vec Ideal S16384x1024 .f32) (G : Vec Ideal S1x1024 .f32) (WG WU : Vec Ideal S1024x2816 .bf16) (WD : Vec Ideal S2816x1024 .bf16)
    (x0 : Vec Ideal S512x1024 .f32) (x1 : Vec Ideal S1x1024 .f32) (x2 x3 : Vec Ideal S1024x2816 .bf16) (x4 : Vec Ideal S2816x1024 .bf16)
    (i : Fin 32) (h0 : ∀ r k, x0 (ix2 r k) = X (ix2 ⟨512 * i.val + r.val, by omega⟩ k)) (h1 : ∀ k, x1 (ix2 0 k) = G (ix2 0 k))
    (h2 : ∀ k f, x2 (ix2 k f) = WG (ix2 k f)) (h3 : ∀ k f, x3 (ix2 k f) = WU (ix2 k f)) (h4 : ∀ f j, x4 (ix2 f j) = WD (ix2 f j))
    (y : S512x1024.Idx) (e : S16384x1024.Idx) (e0 : (e 0).val = 512 * i.val + (y 0).val)
    (e1 : (e 1).val = (y 1).val) : stepped (F := Ideal) x0 x1 x2 x3 x4 y = outArr X G WG WU WD e := by
  obtain ⟨r, k, rfl⟩ : ∃ (r : Fin 512) (k : Fin 1024), y = ix2 r k := ⟨y 0, y 1, by funext a; fin_cases a <;> rfl⟩
  have f0 : e 0 = (⟨512 * i.val + r.val, by omega⟩ : Fin 16384) := Fin.ext e0
  have f1 : e 1 = k := Fin.ext e1
  unfold outArr
  rw [stepped_read, f0, f1]
  rw [show row x0 r = row X ⟨512 * i.val + r.val, by omega⟩ from funext (h0 r), show row x1 0 = row G 0 from funext h1,
    show up x2 = up WG from funext₂ h2, show up x3 = up WU from funext₂ h3, show down x4 = down WD from funext₂ h4]

/-- The first result array. -/
theorem arr_eq (c : Dev nD) : (dats m 0 c).arrAt 9 cfg0.N = outArr (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, out_eq]
  refine block_of_reads _ _ _ _ _ _ _ _ _ _ (blk t) (x_read m c t) (g_read m c t) (wg_read m c t) (wu_read m c t) (wd_read m c t) y _ ?_ ?_
  · blk_simp [ix_9 t]
    simp only [blk]
    omega
  · blk_simp [ix_9 t]

/-- A stored block of up weights: the loaded one without its leading axes. -/
theorem up_block (W : Vec Ideal S4x2x1024x2816 .f32) (x : Vec Ideal S1x1x32x2816 .f32) (p : Fin 4) (l : Fin 2) (i : Fin 32)
    (h : ∀ r f, x (ix4 0 0 r f) = W (ix4 p l ⟨32 * i.val + r.val, by omega⟩ f)) (y : S32x2816.Idx) (e : S1024x2816.Idx)
    (e0 : (e 0).val = 32 * i.val + (y 0).val) (e1 : (e 1).val = (y 1).val) :
    View.canon [⟨r0_1, k0_pay1 (F := Ideal) (View.ld x r0_0)⟩] y = nextUp W p l e := by
  have ex : View.ld x r0_0 = x := View.ld_unit_lit (S := S1x1x32x2816) _ x (by decide)
  rw [ex, Value.canon10_eq]
  obtain ⟨r, f, rfl⟩ : ∃ (r : Fin 32) (f : Fin 2816), y = ix2 r f := ⟨y 0, y 1, by funext a; fin_cases a <;> rfl⟩
  have f0 : e 0 = (⟨32 * i.val + r.val, by omega⟩ : Fin 1024) := Fin.ext e0
  have f1 : e 1 = f := Fin.ext e1
  have ei : Value.ix10_0 (ix2 r f) = ix4 0 0 r f := by funext a; fin_cases a <;> rfl
  unfold nextUp
  rw [f0, f1]
  exact (congrArg x ei).trans (h r f)

/-- A stored block of down weights. -/
theorem down_block (W : Vec Ideal S4x2x2816x1024 .f32) (x : Vec Ideal S1x1x176x1024 .f32) (p : Fin 4) (l : Fin 2) (i : Fin 32)
    (h : ∀ r f, x (ix4 0 0 r f) = W (ix4 p l ⟨176 * (i.val / 2) + r.val, by omega⟩ f)) (y : S176x1024.Idx) (e : S2816x1024.Idx)
    (e0 : (e 0).val = 176 * (i.val / 2) + (y 0).val) (e1 : (e 1).val = (y 1).val) :
    View.canon [⟨r0_3, k0_pay3 (F := Ideal) (View.ld x r0_2)⟩] y = nextDown W p l e := by
  have ex : View.ld x r0_2 = x := View.ld_unit_lit (S := S1x1x176x1024) _ x (by decide)
  rw [ex, Value.canon12_eq]
  obtain ⟨r, f, rfl⟩ : ∃ (r : Fin 176) (f : Fin 1024), y = ix2 r f := ⟨y 0, y 1, by funext a; fin_cases a <;> rfl⟩
  have f0 : e 0 = (⟨176 * (i.val / 2) + r.val, by omega⟩ : Fin 2816) := Fin.ext e0
  have f1 : e 1 = f := Fin.ext e1
  have ei : Value.ix12_0 (ix2 r f) = ix4 0 0 r f := by funext a; fin_cases a <;> rfl
  unfold nextDown
  rw [f0, f1]
  exact (congrArg x ei).trans (h r f)

/-- The second, third and fourth result arrays. -/
theorem gate_eq (c : Dev nD) : (dats m 0 c).arrAt 10 cfg0.N = nextUp (m ((c : Thread nD τ).loc main_arg6)) 0 1 := by
  refine (dats m 0 c).arrAt_eq_of_covers 10 _ (by decide +kernel) fun t hf y => ?_
  blk_simp
  rw [after0_10]
  refine up_block _ _ 0 1 (blk t) (ng_read m c t) y _ ?_ ?_
  · blk_simp [ix_10 t]
    simp only [blk]
    omega
  · blk_simp [ix_10 t]

theorem up_eq (c : Dev nD) : (dats m 0 c).arrAt 11 cfg0.N = nextUp (m ((c : Thread nD τ).loc main_arg7)) 0 1 := by
  refine (dats m 0 c).arrAt_eq_of_covers 11 _ (by decide +kernel) fun t hf y => ?_
  blk_simp
  rw [after0_11]
  refine up_block _ _ 0 1 (blk t) (nu_read m c t) y _ ?_ ?_
  · blk_simp [ix_11 t]
    simp only [blk]
    omega
  · blk_simp [ix_11 t]

theorem down_eq (c : Dev nD) : (dats m 0 c).arrAt 12 cfg0.N = nextDown (m ((c : Thread nD τ).loc main_arg8)) 0 1 := by
  refine (dats m 0 c).arrAt_eq_of_covers 12 _ (by decide +kernel) fun t hf y => ?_
  blk_simp
  rw [after0_12]
  refine down_block _ _ 0 1 (blk t) (nd_read m c t) y _ ?_ ?_
  · blk_simp [ix_12 t]
    simp only [blk]
    omega
  · blk_simp [ix_12 t]

end Cert.FfnIdeal.Array

end
-- ==== Proof.FfnRef.lean ====
/- The feed-forward call's reference: its results are the kernel's arrays. -/
module

public import proofs.«01_k».proof.Proof.FinalRef
public import proofs.«01_k».proof.Proof.FfnArray
public import proofs.«01_k».proof.Proof.Gen.FfnReferenceIdeal.Read

@[expose] public section

set_option maxRecDepth 16384

noncomputable section

namespace Cert.FfnReferenceIdeal.Rows

open Idealize.ShloMosaic Idealize.ShloMosaic.TcCoe Cert.FfnReferenceIdeal Cert.FfnReferenceIdeal.Read Cert.FfnReferenceIdeal.Gen
open Idealize.ShloMosaic.Pointwise
open Cert.FfnRows (row up down)
open Cert.FfnIdeal.Array (outArr nextUp nextDown)

variable (X : Vec Ideal S16384x1024 .f32) (G : Vec Ideal S1x1024 .f32) (WG WU : Vec Ideal S1024x2816 .bf16) (WD : Vec Ideal S2816x1024 .bf16)

/-- The half step is the one of the last call. -/
theorem step_eq : val_main_v22 (F := Ideal) X G WG WU WD = Cert.FinalReferenceIdeal.Read.val_main_v22 (F := Ideal) X G WG WU WD := rfl

theorem result_eq : val_main_v22 (F := Ideal) X G WG WU WD = outArr X G WG WU WD := by
  funext y
  obtain ⟨r, j, rfl⟩ : ∃ (r : Fin 16384) (j : Fin 1024), y = ix2 r j := ⟨y 0, y 1, by funext a; fin_cases a <;> rfl⟩
  rw [step_eq, Cert.FinalReferenceIdeal.Rows.step_read]
  rfl

theorem gate_eq (W : Vec Ideal S4x2x1024x2816 .f32) : val_main_v25 (F := Ideal) W = nextUp W 0 1 := by
  funext y
  obtain ⟨r, j, rfl⟩ : ∃ (r : Fin 1024) (j : Fin 2816), y = ix2 r j := ⟨y 0, y 1, by funext a; fin_cases a <;> rfl⟩
  unfold val_main_v25 val_main_v24 val_main_v23
  pointwise [nextUp]

theorem up_eq (W : Vec Ideal S4x2x1024x2816 .f32) : val_main_v28 (F := Ideal) W = nextUp W 0 1 := gate_eq W

theorem down_eq (W : Vec Ideal S4x2x2816x1024 .f32) : val_main_v31 (F := Ideal) W = nextDown W 0 1 := by
  funext y
  obtain ⟨r, j, rfl⟩ : ∃ (r : Fin 2816) (j : Fin 1024), y = ix2 r j := ⟨y 0, y 1, by funext a; fin_cases a <;> rfl⟩
  unfold val_main_v31 val_main_v30 val_main_v29
  pointwise [nextDown]

end Cert.FfnReferenceIdeal.Rows

end
-- ==== Proof.MixArray.lean ====
/- The mixing call's arrays: each row takes the two heads' products with their halves of the output weights, then the half step;
   and the next layer's weights in the narrow type. -/
module

public import proofs.«01_k».proof.Proof.FfnArray
public import proofs.«01_k».proof.Proof.Gen.MixIdeal.Value
public import Idealize.ShloMosaic.Lib.Pipeline.ValueKit.Point

@[expose] public section

set_option maxRecDepth 16384

noncomputable section

namespace Cert.MixIdeal.Array

open Idealize.ShloMosaic Idealize.ShloMosaic.TcCoe Cert.MixIdeal Cert.MixIdeal.Gen
open Idealize.ShloMosaic.Pointwise Idealize.ShloMosaic.Pipeline
open Cert.FfnRows (row up down stepped stepped_read)
open Cert.FfnIdeal.Array (nextUp nextDown up_block down_block)

variable (m : (ℓ : Loc nD τ sig) → Buf (Elt Ideal) ℓ)

/-- A row with the products of the two halves added. -/
def mixed (x : Fin 1024 → EReal) (a b : Fin 512 → EReal) (w : Fin 1024 → Fin 1024 → EReal) (j : Fin 1024) : EReal :=
  x j + ∑ k : Fin 512, a k * w ⟨0 + k.val, by omega⟩ j + ∑ k : Fin 512, b k * w ⟨512 + k.val, by omega⟩ j

/-- The first result from the arguments. -/
def outArr (x : Vec Ideal S16384x1024 .f32) (g : Vec Ideal S1x1024 .f32) (wg wu : Vec Ideal S1024x2816 .bf16) (wd : Vec Ideal S2816x1024 .bf16)
    (oa ob : Vec Ideal S16384x512 .bf16) (wo : Vec Ideal S2x1024x1024 .bf16) : Vec Ideal S16384x1024 .f32 := fun y =>
  FfnMath.step (mixed (row x (y 0)) (fun k => oa (ix2 (y 0) k)) (fun k => ob (ix2 (y 0) k)) (fun k j => wo (ix3 0 k j)))
    (row g 0) (up wg) (up wu) (down wd) (y 1)

/-- A load of half the rows. -/
theorem ld_rows {o : Nat} (ho : o + 512 ≤ 1024) (x : Vec Ideal S1x1024x1024 .bf16)
    (inb : ∀ a, (![0, o, 0] : Fin 3 → Nat) a + (⟨3, ![1, 512, 1024]⟩ : Shape).size a ≤ S1x1024x1024.size a) (k : Fin 512) (j : Fin 1024) :
    View.ld x (Rect.unit (s := S1x1024x1024) ![0, o, 0] (⟨3, ![1, 512, 1024]⟩ : Shape).size inb) (ix3 0 k j) = x (ix3 0 ⟨o + k.val, by omega⟩ j) := by
  refine congrArg x (funext fun a => Fin.ext ((ValueKit.rect_emb_unit_val _ _ _ _ _).trans ?_))
  match a with
  | ⟨0, _⟩ => rfl
  | ⟨1, _⟩ => rfl
  | ⟨2, _⟩ => exact Nat.zero_add _

theorem pay5_read (x : Vec Ideal S512x1024 .f32) (a b : Vec Ideal S512x512 .bf16) (u v : Vec Ideal S1x512x1024 .bf16) (r : Fin 512) (j : Fin 1024) :
    k0_pay5 (F := Ideal) x a u b v (ix2 r j)
      = x (ix2 r j) + ∑ k : Fin 512, a (ix2 r k) * u (ix3 0 k j) + ∑ k : Fin 512, b (ix2 r k) * v (ix3 0 k j) := by
  unfold k0_pay5
  pointwise []

/-- A block's first store is the half step of the mixed rows. -/
theorem out_eq (x0 x1 : Vec Ideal S512x512 .bf16) (x2 : Vec Ideal S1x1024x1024 .bf16) (x3 : Vec Ideal S512x1024 .f32) (x4 x8 : Vec Ideal S1x1024 .f32)
    (x5 x6 : Vec Ideal S1024x2816 .bf16) (x7 : Vec Ideal S2816x1024 .bf16)
    (x9 x10 : Vec Ideal S1x1x32x2816 .f32) (x11 : Vec Ideal S1x1x176x1024 .f32) :
    out0_12 x0 x1 x2 x3 x4 x5 x6 x7 x8 x9 x10 x11 = stepped (k0_pay5 x3 x0 (View.ld x2 r0_6) x1 (View.ld x2 r0_7)) x4 x5 x6 x7 := by
  unfold out0_12 k0_pay17 k0_pay16
  have e0 : View.ld x0 r0_5 = x0 := View.ld_unit_lit (S := S512x512) _ x0 (by decide)
  have e1 : View.ld x1 r0_5 = x1 := View.ld_unit_lit (S := S512x512) _ x1 (by decide)
  have e3 : View.ld x3 r0_4 = x3 := View.ld_unit_lit (S := S512x1024) _ x3 (by decide)
  have e4 : View.ld x4 r0_8 = x4 := View.ld_unit_lit (S := S1x1024) _ x4 (by decide)
  rw [e0, e1, e3, e4]
  generalize k0_pay5 (F := Ideal) x3 x0 (View.ld x2 r0_6) x1 (View.ld x2 r0_7) = h
  exact View.canon_cons_unit_lit (S := S512x1024) _ _ _ (by decide)

theorem ix_0 : ∀ t : Fin cfg0.N, win0_0.index t = ![(grid0.coords t 0).val, 0] := (by decide +kernel : ∀ t : Fin grid0.N, _)
theorem ix_1 : ∀ t : Fin cfg0.N, win0_1.index t = ![(grid0.coords t 0).val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![(grid0.coords t 0).val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_9 : ∀ t : Fin cfg0.N, win0_9.index t = ![1, 0, (grid0.coords t 0).val, 0] := (by decide +kernel : ∀ t : Fin grid0.N, _)
theorem ix_10 : ∀ t : Fin cfg0.N, win0_10.index t = ![1, 0, (grid0.coords t 0).val, 0] := (by decide +kernel : ∀ t : Fin grid0.N, _)
theorem ix_11 : ∀ t : Fin cfg0.N, win0_11.index t = ![1, 0, (grid0.coords t 0).val / 2, 0] := (by decide +kernel : ∀ t : Fin grid0.N, _)
theorem ix_12 : ∀ t : Fin cfg0.N, win0_12.index t = ![(grid0.coords t 0).val, 0] := (by decide +kernel : ∀ t : Fin grid0.N, _)
theorem ix_13 : ∀ t : Fin cfg0.N, win0_13.index t = ![(grid0.coords t 0).val, 0] := (by decide +kernel : ∀ t : Fin grid0.N, _)
theorem ix_14 : ∀ t : Fin cfg0.N, win0_14.index t = ![(grid0.coords t 0).val, 0] := (by decide +kernel : ∀ t : Fin grid0.N, _)
theorem ix_15 : ∀ t : Fin cfg0.N, win0_15.index t = ![(grid0.coords t 0).val / 2, 0] := (by decide +kernel : ∀ t : Fin grid0.N, _)

abbrev blk (t : Fin cfg0.N) : Fin 32 := grid0.coords t 0

theorem oa_read (c : Dev nD) (t : Fin cfg0.N) (r : Fin 512) (k : Fin 512) :
    (iblk m c 0 t : Vec Ideal S512x512 .bf16) (ix2 r k) = m ((c : Thread nD τ).loc main_arg9) (ix2 ⟨512 * (blk t).val + r.val, by omega⟩ k) := by
  blk_ext! [iblk, V, ix_0 t]
  all_goals simp only [blk] <;> omega

theorem ob_read (c : Dev nD) (t : Fin cfg0.N) (r : Fin 512) (k : Fin 512) :
    (iblk m c 1 t : Vec Ideal S512x512 .bf16) (ix2 r k) = m ((c : Thread nD τ).loc main_arg10) (ix2 ⟨512 * (blk t).val + r.val, by omega⟩ k) := by
  blk_ext! [iblk, V, ix_1 t]
  all_goals simp only [blk] <;> omega

theorem wo_read (c : Dev nD) (t : Fin cfg0.N) (k j : Fin 1024) :
    (iblk m c 2 t : Vec Ideal S1x1024x1024 .bf16) (ix3 0 k j) = m ((c : Thread nD τ).loc main_arg11) (ix3 0 k j) := by
  blk_ext! [iblk, V, ix_2 t]

theorem x_read (c : Dev nD) (t : Fin cfg0.N) (r : Fin 512) (k : Fin 1024) :
    (iblk m c 3 t : Vec Ideal S512x1024 .f32) (ix2 r k) = m ((c : Thread nD τ).loc main_arg0) (ix2 ⟨512 * (blk t).val + r.val, by omega⟩ k) := by
  blk_ext! [iblk, V, ix_3 t]
  all_goals simp only [blk] <;> omega

theorem g_read (c : Dev nD) (t : Fin cfg0.N) (k : Fin 1024) :
    (iblk m c 4 t : Vec Ideal S1x1024 .f32) (ix2 0 k) = m ((c : Thread nD τ).loc main_arg1) (ix2 0 k) := by
  blk_ext! [iblk, V, ix_4 t]

theorem wg_read (c : Dev nD) (t : Fin cfg0.N) (k : Fin 1024) (f : Fin 2816) :
    (iblk m c 5 t : Vec Ideal S1024x2816 .bf16) (ix2 k f) = m ((c : Thread nD τ).loc main_arg2) (ix2 k f) := by
  blk_ext! [iblk, V, ix_5 t]

theorem wu_read (c : Dev nD) (t : Fin cfg0.N) (k : Fin 1024) (f : Fin 2816) :
    (iblk m c 6 t : Vec Ideal S1024x2816 .bf16) (ix2 k f) = m ((c : Thread nD τ).loc main_arg3) (ix2 k f) := by
  blk_ext! [iblk, V, ix_6 t]

theorem wd_read (c : Dev nD) (t : Fin cfg0.N) (f : Fin 2816) (j : Fin 1024) :
    (iblk m c 7 t : Vec Ideal S2816x1024 .bf16) (ix2 f j) = m ((c : Thread nD τ).loc main_arg4) (ix2 f j) := by
  blk_ext! [iblk, V, ix_7 t]

theorem ng_read (c : Dev nD) (t : Fin cfg0.N) (r : Fin 32) (f : Fin 2816) :
    (iblk m c 9 t : Vec Ideal S1x1x32x2816 .f32) (ix4 0 0 r f) = m ((c : Thread nD τ).loc main_arg6) (ix4 1 0 ⟨32 * (blk t).val + r.val, by omega⟩ f) := by
  blk_ext! [iblk, V, ix_9 t]
  all_goals simp only [blk] <;> omega

theorem nu_read (c : Dev nD) (t : Fin cfg0.N) (r : Fin 32) (f : Fin 2816) :
    (iblk m c 10 t : Vec Ideal S1x1x32x2816 .f32) (ix4 0 0 r f) = m ((c : Thread nD τ).loc main_arg7) (ix4 1 0 ⟨32 * (blk t).val + r.val, by omega⟩ f) := by
  blk_ext! [iblk, V, ix_10 t]
  all_goals simp only [blk] <;> omega

theorem nd_read (c : Dev nD) (t : Fin cfg0.N) (r : Fin 176) (f : Fin 1024) :
    (iblk m c 11 t : Vec Ideal S1x1x176x1024 .f32) (ix4 0 0 r f)
      = m ((c : Thread nD τ).loc main_arg8) (ix4 1 0 ⟨176 * ((blk t).val / 2) + r.val, by omega⟩ f) := by
  blk_ext! [iblk, V, ix_11 t]
  all_goals simp only [blk] <;> omega

/-- A mixed block's row from its inputs' reads. -/
theorem mixed_row (X : Vec Ideal S16384x1024 .f32) (OA OB : Vec Ideal S16384x512 .bf16) (WO : Vec Ideal S2x1024x1024 .bf16)
    (x0 x1 : Vec Ideal S512x512 .bf16) (x2 : Vec Ideal S1x1024x1024 .bf16) (x3 : Vec Ideal S512x1024 .f32) (s : Fin 16384) (r : Fin 512)
    (ha : ∀ k, x0 (ix2 r k) = OA (ix2 s k)) (hb : ∀ k, x1 (ix2 r k) = OB (ix2 s k)) (ho : ∀ k j, x2 (ix3 0 k j) = WO (ix3 0 k j))
    (h0 : ∀ k, x3 (ix2 r k) = X (ix2 s k)) :
    row (k0_pay5 (F := Ideal) x3 x0 (View.ld x2 r0_6) x1 (View.ld x2 r0_7)) r
      = mixed (row X s) (fun k => OA (ix2 s k)) (fun k => OB (ix2 s k)) (fun k j => WO (ix3 0 k j)) := by
  funext j
  have hu : ∀ k : Fin 512, View.ld x2 r0_6 (ix3 0 k j) = WO (ix3 0 ⟨0 + k.val, by omega⟩ j) := fun k =>
    (ld_rows (o := 0) (by omega) x2 _ k j).trans (ho _ j)
  have hv : ∀ k : Fin 512, View.ld x2 r0_7 (ix3 0 k j) = WO (ix3 0 ⟨512 + k.val, by omega⟩ j) := fun k =>
    (ld_rows (o := 512) (by omega) x2 _ k j).trans (ho _ j)
  refine (pay5_read _ _ _ _ _ r j).trans ?_
  unfold mixed
  refine congrArg₂ (· + ·) (congrArg₂ (· + ·) (h0 j) (Finset.sum_congr rfl fun k _ => ?_)) (Finset.sum_congr rfl fun k _ => ?_)
  · rw [ha k, hu k]
  · rw [hb k, hv k]

/-- A block of the first result from its inputs' reads. -/
theorem block_of_reads (X : Vec Ideal S16384x1024 .f32) (G : Vec Ideal S1x1024 .f32) (WG WU : Vec Ideal S1024x2816 .bf16) (WD : Vec Ideal S2816x1024 .bf16)
    (OA OB : Vec Ideal S16384x512 .bf16) (WO : Vec Ideal S2x1024x1024 .bf16)
    (x0 x1 : Vec Ideal S512x512 .bf16) (x2 : Vec Ideal S1x1024x1024 .bf16) (x3 : Vec Ideal S512x1024 .f32) (x4 : Vec Ideal S1x1024 .f32)
    (x5 x6 : Vec Ideal S1024x2816 .bf16) (x7 : Vec Ideal S2816x1024 .bf16) (i : Fin 32)
    (ha : ∀ r k, x0 (ix2 r k) = OA (ix2 ⟨512 * i.val + r.val, by omega⟩ k)) (hb : ∀ r k, x1 (ix2 r k) = OB (ix2 ⟨512 * i.val + r.val, by omega⟩ k))
    (ho : ∀ k j, x2 (ix3 0 k j) = WO (ix3 0 k j))
    (h0 : ∀ r k, x3 (ix2 r k) = X (ix2 ⟨512 * i.val + r.val, by omega⟩ k)) (h1 : ∀ k, x4 (ix2 0 k) = G (ix2 0 k))
    (h2 : ∀ k f, x5 (ix2 k f) = WG (ix2 k f)) (h3 : ∀ k f, x6 (ix2 k f) = WU (ix2 k f)) (h4 : ∀ f j, x7 (ix2 f j) = WD (ix2 f j))
    (y : S512x1024.Idx) (e : S16384x1024.Idx) (e0 : (e 0).val = 512 * i.val + (y 0).val) (e1 : (e 1).val = (y 1).val) :
    stepped (F := Ideal) (k0_pay5 x3 x0 (View.ld x2 r0_6) x1 (View.ld x2 r0_7)) x4 x5 x6 x7 y = outArr X G WG WU WD OA OB WO e := by
  obtain ⟨r, k, rfl⟩ : ∃ (r : Fin 512) (k : Fin 1024), y = ix2 r k := ⟨y 0, y 1, by funext a; fin_cases a <;> rfl⟩
  have f0 : e 0 = (⟨512 * i.val + r.val, by omega⟩ : Fin 16384) := Fin.ext e0
  have f1 : e 1 = k := Fin.ext e1
  have hm := mixed_row X OA OB WO x0 x1 x2 x3 ⟨512 * i.val + r.val, by omega⟩ r (ha r) (hb r) ho (h0 r)
  generalize k0_pay5 (F := Ideal) x3 x0 (View.ld x2 r0_6) x1 (View.ld x2 r0_7) = h at hm ⊢
  unfold outArr
  rw [stepped_read, f0, f1, hm]
  rw [show row x4 0 = row G 0 from funext h1,
    show up x5 = up WG from funext₂ h2, show up x6 = up WU from funext₂ h3, show down x7 = down WD from funext₂ h4]

/-- The first result array. -/
theorem arr_eq (c : Dev nD) : (dats m 0 c).arrAt 12 cfg0.N = outArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12, out_eq]
  refine block_of_reads _ _ _ _ _ _ _ _ _ _ _ _ _ _ _ _ (blk t) (oa_read m c t) (ob_read m c t) (wo_read m c t) (x_read m c t) (g_read m c t)
    (wg_read m c t) (wu_read m c t) (wd_read m c t) y _ ?_ ?_
  · blk_simp [ix_12 t]
    simp only [blk]
    omega
  · blk_simp [ix_12 t]

/-- The second, third and fourth result arrays. -/
theorem gate_eq (c : Dev nD) : (dats m 0 c).arrAt 13 cfg0.N = nextUp (m ((c : Thread nD τ).loc main_arg6)) 1 0 := by
  refine (dats m 0 c).arrAt_eq_of_covers 13 _ (by decide +kernel) fun t hf y => ?_
  blk_simp
  rw [after0_13]
  refine up_block _ _ 1 0 (blk t) (ng_read m c t) y _ ?_ ?_
  · blk_simp [ix_13 t]
    simp only [blk]
    omega
  · blk_simp [ix_13 t]

theorem up_eq (c : Dev nD) : (dats m 0 c).arrAt 14 cfg0.N = nextUp (m ((c : Thread nD τ).loc main_arg7)) 1 0 := by
  refine (dats m 0 c).arrAt_eq_of_covers 14 _ (by decide +kernel) fun t hf y => ?_
  blk_simp
  rw [after0_14]
  refine up_block _ _ 1 0 (blk t) (nu_read m c t) y _ ?_ ?_
  · blk_simp [ix_14 t]
    simp only [blk]
    omega
  · blk_simp [ix_14 t]

theorem down_eq (c : Dev nD) : (dats m 0 c).arrAt 15 cfg0.N = nextDown (m ((c : Thread nD τ).loc main_arg8)) 1 0 := by
  refine (dats m 0 c).arrAt_eq_of_covers 15 _ (by decide +kernel) fun t hf y => ?_
  blk_simp
  rw [after0_15]
  refine down_block _ _ 1 0 (blk t) (nd_read m c t) y _ ?_ ?_
  · blk_simp [ix_15 t]
    simp only [blk]
    omega
  · blk_simp [ix_15 t]

end Cert.MixIdeal.Array

end
-- ==== Proof.MixRef.lean ====
/- The mixing call's reference: its results are the kernel's arrays. -/
module

public import proofs.«01_k».proof.Proof.FfnRef
public import proofs.«01_k».proof.Proof.MixArray
public import proofs.«01_k».proof.Proof.Gen.MixReferenceIdeal.Read

@[expose] public section

set_option maxRecDepth 16384

noncomputable section

namespace Cert.MixReferenceIdeal.Rows

open Idealize.ShloMosaic Idealize.ShloMosaic.TcCoe Cert.MixReferenceIdeal Cert.MixReferenceIdeal.Read Cert.MixReferenceIdeal.Gen
open Idealize.ShloMosaic.Pointwise
open Cert.FfnRows (row up down)
open Cert.FfnIdeal.Array (nextUp nextDown)
open Cert.MixIdeal.Array (outArr mixed)

variable (X : Vec Ideal S16384x1024 .f32) (G : Vec Ideal S1x1024 .f32) (WG WU : Vec Ideal S1024x2816 .bf16) (WD : Vec Ideal S2816x1024 .bf16)
  (OA OB : Vec Ideal S16384x512 .bf16) (WO : Vec Ideal S2x1024x1024 .bf16)

/-- The half step is the one of the last call, of the mixed rows. -/
theorem step_eq : val_main_v29 (F := Ideal) X G WG WU WD OA OB WO
    = Cert.FinalReferenceIdeal.Read.val_main_v22 (F := Ideal) (val_main_v6 (F := Ideal) X OA OB WO) G WG WU WD := rfl

theorem weight_read (k j : Fin 1024) : val_main_v4 (F := Ideal) WO (ix2 k j) = WO (ix3 0 k j) := by
  unfold val_main_v4 val_main_v3 val_main_v2
  pointwise []

/-- The concatenation's first and second half. -/
theorem left_read (r : Fin 16384) (k : Fin 512) : val_main_v1 (F := Ideal) OA OB (ix2 r (⟨0 + k.val, by omega⟩ : Fin 1024)) = OA (ix2 r k) := by
  unfold val_main_v1 val_main_v0
  pointwise []

theorem right_read (r : Fin 16384) (k : Fin 512) : val_main_v1 (F := Ideal) OA OB (ix2 r (⟨512 + k.val, by omega⟩ : Fin 1024)) = OB (ix2 r k) := by
  unfold val_main_v1 val_main_v0
  pointwise []

theorem halves (f : Fin 1024 → EReal) : ∑ k, f k = ∑ k : Fin 512, f ⟨0 + k.val, by omega⟩ + ∑ k : Fin 512, f ⟨512 + k.val, by omega⟩ := by
  rw [show ∑ k, f k = ∑ k : Fin (512 + 512), f k from rfl, Fin.sum_univ_add]
  simp only [Nat.zero_add]
  rfl

theorem mixed_read (r : Fin 16384) :
    row (val_main_v6 (F := Ideal) X OA OB WO) r
      = mixed (row X r) (fun k => OA (ix2 r k)) (fun k => OB (ix2 r k)) (fun k j => WO (ix3 0 k j)) := by
  funext j
  have e : ∀ k, lidx_main_v5 (ix2 r j) k = ix2 r k := fun k => by funext a; fin_cases a <;> rfl
  have e' : ∀ k, ridx_main_v5 (ix2 r j) k = ix2 k j := fun k => by funext a; fin_cases a <;> rfl
  show val_main_v6 (F := Ideal) X OA OB WO (ix2 r j) = _
  rw [val_main_v6_apply, val_main_v5_apply, halves]
  simp only [e, e', left_read, right_read, weight_read]
  exact (add_assoc _ _ _).symm

theorem result_eq : val_main_v29 (F := Ideal) X G WG WU WD OA OB WO = outArr X G WG WU WD OA OB WO := by
  funext y
  obtain ⟨r, j, rfl⟩ : ∃ (r : Fin 16384) (j : Fin 1024), y = ix2 r j := ⟨y 0, y 1, by funext a; fin_cases a <;> rfl⟩
  rw [step_eq, Cert.FinalReferenceIdeal.Rows.step_read, mixed_read]
  rfl

theorem gate_eq (W : Vec Ideal S4x2x1024x2816 .f32) : val_main_v32 (F := Ideal) W = nextUp W 1 0 := by
  funext y
  obtain ⟨r, j, rfl⟩ : ∃ (r : Fin 1024) (j : Fin 2816), y = ix2 r j := ⟨y 0, y 1, by funext a; fin_cases a <;> rfl⟩
  unfold val_main_v32 val_main_v31 val_main_v30
  pointwise [nextUp]

theorem up_eq (W : Vec Ideal S4x2x1024x2816 .f32) : val_main_v35 (F := Ideal) W = nextUp W 1 0 := gate_eq W

theorem down_eq (W : Vec Ideal S4x2x2816x1024 .f32) : val_main_v38 (F := Ideal) W = nextDown W 1 0 := by
  funext y
  obtain ⟨r, j, rfl⟩ : ∃ (r : Fin 2816) (j : Fin 1024), y = ix2 r j := ⟨y 0, y 1, by funext a; fin_cases a <;> rfl⟩
  unfold val_main_v38 val_main_v37 val_main_v36
  pointwise [nextDown]

end Cert.MixReferenceIdeal.Rows

end
-- ==== Proof.InArray.lean ====
/- The input projection's arrays: the normed rows times the two stretches of the weights' columns. -/
module

public import proofs.«01_k».proof.Proof.FfnBlock
public import proofs.«01_k».proof.Proof.Gen.InIdeal.Value
public import Idealize.ShloMosaic.Lib.Pipeline.ValueKit.Point

@[expose] public section

set_option maxRecDepth 16384

noncomputable section

namespace Cert.InIdeal.Array

open Idealize.ShloMosaic Idealize.ShloMosaic.TcCoe Cert.InIdeal Cert.InIdeal.Gen
open Idealize.ShloMosaic.Pointwise Idealize.ShloMosaic.Pipeline
open Cert.FfnRows (row normed normed_read)

variable (m : (ℓ : Loc nD τ sig) → Buf (Elt Ideal) ℓ)

/-- The projections of a row onto the columns from `o` on. -/
def proj {n : Nat} (o : Nat) (ho : o + n ≤ 3328) (x g : Fin 1024 → EReal) (w : Fin 1024 → Fin 3328 → EReal) (j : Fin n) : EReal :=
  ∑ k, FfnMath.norm x g k * w k ⟨o + j.val, by omega⟩

/-- The two results from the arguments. -/
def outA (x : Vec Ideal S16384x1024 .f32) (g : Vec Ideal S1x1024 .f32) (w : Vec Ideal S2x1024x3328 .bf16) : Vec Ideal S16384x1536 .bf16 := fun y =>
  proj (n := 1536) 0 (by omega) (row x (y 0)) (row g 0) (fun k j => w (ix3 0 k j)) (y 1)
def outB (x : Vec Ideal S16384x1024 .f32) (g : Vec Ideal S1x1024 .f32) (w : Vec Ideal S2x1024x3328 .bf16) : Vec Ideal S16384x1792 .f32 := fun y =>
  proj (n := 1792) 1536 (by omega) (row x (y 0)) (row g 0) (fun k j => w (ix3 0 k j)) (y 1)

/-- A load of a stretch of columns. -/
theorem ld_cols {n o : Nat} (ho : o + n ≤ 3328) (x : Vec Ideal S1x1024x3328 .bf16)
    (inb : ∀ a, (![0, 0, o] : Fin 3 → Nat) a + (⟨3, ![1, 1024, n]⟩ : Shape).size a ≤ S1x1024x3328.size a) (k : Fin 1024) (j : Fin n) :
    View.ld x (Rect.unit (s := S1x1024x3328) ![0, 0, o] (⟨3, ![1, 1024, n]⟩ : Shape).size inb) (ix3 0 k j) = x (ix3 0 k ⟨o + j.val, by omega⟩) := by
  refine congrArg x (funext fun a => Fin.ext ((ValueKit.rect_emb_unit_val _ _ _ _ _).trans ?_))
  match a with
  | ⟨0, _⟩ => rfl
  | ⟨1, _⟩ => exact Nat.zero_add _
  | ⟨2, _⟩ => rfl

theorem pay1_eq (x : Vec Ideal S512x1024 .f32) (g : Vec Ideal S1x1024 .f32) :
    k0_pay1 (F := Ideal) x g = truncf (F := Ideal) .bf16 (normed x g) bitsLt_bf16_f32 := rfl

theorem pay2_read (x : Vec Ideal S512x1024 .f32) (g : Vec Ideal S1x1024 .f32) (w : Vec Ideal S1x1024x1536 .bf16) (r : Fin 512) (j : Fin 1536) :
    k0_pay2 (F := Ideal) x g w (ix2 r j) = ∑ k, FfnMath.norm (row x r) (row g 0) k * w (ix3 0 k j) := by
  have hn : ∀ k, k0_pay1 (F := Ideal) x g (ix2 r k) = FfnMath.norm (row x r) (row g 0) k := fun k => normed_read x g r k
  unfold k0_pay2
  generalize k0_pay1 (F := Ideal) x g = h at hn ⊢
  pointwise []
  simp only [hn]

theorem pay3_read (x : Vec Ideal S512x1024 .f32) (g : Vec Ideal S1x1024 .f32) (w : Vec Ideal S1x1024x1792 .bf16) (r : Fin 512) (j : Fin 1792) :
    k0_pay3 (F := Ideal) x g w (ix2 r j) = ∑ k, FfnMath.norm (row x r) (row g 0) k * w (ix3 0 k j) := by
  have hn : ∀ k, k0_pay1 (F := Ideal) x g (ix2 r k) = FfnMath.norm (row x r) (row g 0) k := fun k => normed_read x g r k
  unfold k0_pay3
  generalize k0_pay1 (F := Ideal) x g = h at hn ⊢
  pointwise []
  simp only [hn]

theorem out3_eq (x0 : Vec Ideal S512x1024 .f32) (x1 : Vec Ideal S1x1024 .f32) (x2 : Vec Ideal S1x1024x3328 .bf16) :
    out0_3 x0 x1 x2 = k0_pay2 x0 x1 (View.ld x2 r0_2) := by
  unfold out0_3
  have e0 : View.ld x0 r0_0 = x0 := View.ld_unit_lit (S := S512x1024) _ x0 (by decide)
  have e1 : View.ld x1 r0_1 = x1 := View.ld_unit_lit (S := S1x1024) _ x1 (by decide)
  rw [e0, e1]
  exact View.canon_cons_unit_lit (S := S512x1536) _ _ _ (by decide)

theorem out4_eq (x0 : Vec Ideal S512x1024 .f32) (x1 : Vec Ideal S1x1024 .f32) (x2 : Vec Ideal S1x1024x3328 .bf16) :
    out0_4 x0 x1 x2 = k0_pay3 x0 x1 (View.ld x2 r0_4) := by
  unfold out0_4
  have e0 : View.ld x0 r0_0 = x0 := View.ld_unit_lit (S := S512x1024) _ x0 (by decide)
  have e1 : View.ld x1 r0_1 = x1 := View.ld_unit_lit (S := S1x1024) _ x1 (by decide)
  rw [e0, e1]
  exact View.canon_cons_unit_lit (S := S512x1792) _ _ _ (by decide)

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![(grid0.coords t 0).val, 0] := (by decide +kernel : ∀ t : Fin grid0.N, _)
theorem ix_4 : ∀ t : Fin cfg0.N, win0_4.index t = ![(grid0.coords t 0).val, 0] := (by decide +kernel : ∀ t : Fin grid0.N, _)

abbrev blk (t : Fin cfg0.N) : Fin 32 := grid0.coords t 0

theorem x_read (c : Dev nD) (t : Fin cfg0.N) (r : Fin 512) (k : Fin 1024) :
    (iblk m c 0 t : Vec Ideal S512x1024 .f32) (ix2 r k) = m ((c : Thread nD τ).loc main_arg0) (ix2 ⟨512 * (blk t).val + r.val, by omega⟩ k) := by
  blk_ext! [iblk, V, ix_0 t]
  all_goals simp only [blk] <;> omega

theorem g_read (c : Dev nD) (t : Fin cfg0.N) (k : Fin 1024) :
    (iblk m c 1 t : Vec Ideal S1x1024 .f32) (ix2 0 k) = m ((c : Thread nD τ).loc main_arg1) (ix2 0 k) := by
  blk_ext! [iblk, V, ix_1 t]

theorem w_read (c : Dev nD) (t : Fin cfg0.N) (k : Fin 1024) (j : Fin 3328) :
    (iblk m c 2 t : Vec Ideal S1x1024x3328 .bf16) (ix3 0 k j) = m ((c : Thread nD τ).loc main_arg2) (ix3 0 k j) := by
  blk_ext! [iblk, V, ix_2 t]

section
variable (X : Vec Ideal S16384x1024 .f32) (G : Vec Ideal S1x1024 .f32) (W : Vec Ideal S2x1024x3328 .bf16)
  (x0 : Vec Ideal S512x1024 .f32) (x1 : Vec Ideal S1x1024 .f32) (x2 : Vec Ideal S1x1024x3328 .bf16)
  (i : Fin 32) (h0 : ∀ r k, x0 (ix2 r k) = X (ix2 ⟨512 * i.val + r.val, by omega⟩ k)) (h1 : ∀ k, x1 (ix2 0 k) = G (ix2 0 k))
  (h2 : ∀ k j, x2 (ix3 0 k j) = W (ix3 0 k j))
include h0 h1 h2

/-- A block of each result from its inputs' reads. -/
theorem blockA (y : S512x1536.Idx) (e : S16384x1536.Idx) (e0 : (e 0).val = 512 * i.val + (y 0).val)
    (e1 : (e 1).val = (y 1).val) : out0_3 (F := Ideal) x0 x1 x2 y = outA X G W e := by
  obtain ⟨r, j, rfl⟩ : ∃ (r : Fin 512) (j : Fin 1536), y = ix2 r j := ⟨y 0, y 1, by funext a; fin_cases a <;> rfl⟩
  have f0 : e 0 = (⟨512 * i.val + r.val, by omega⟩ : Fin 16384) := Fin.ext e0
  have f1 : e 1 = j := Fin.ext e1
  have hw : ∀ k, View.ld x2 r0_2 (ix3 0 k j) = W (ix3 0 k ⟨0 + j.val, by omega⟩) := fun k =>
    (ld_cols (n := 1536) (o := 0) (by omega) x2 _ k j).trans (h2 k _)
  unfold outA proj
  rw [out3_eq, pay2_read, f0, f1, show row x0 r = row X ⟨512 * i.val + r.val, by omega⟩ from funext (h0 r), show row x1 0 = row G 0 from funext h1]
  exact Finset.sum_congr rfl fun k _ => congrArg _ (hw k)

theorem blockB (y : S512x1792.Idx) (e : S16384x1792.Idx) (e0 : (e 0).val = 512 * i.val + (y 0).val)
    (e1 : (e 1).val = (y 1).val) : out0_4 (F := Ideal) x0 x1 x2 y = outB X G W e := by
  obtain ⟨r, j, rfl⟩ : ∃ (r : Fin 512) (j : Fin 1792), y = ix2 r j := ⟨y 0, y 1, by funext a; fin_cases a <;> rfl⟩
  have f0 : e 0 = (⟨512 * i.val + r.val, by omega⟩ : Fin 16384) := Fin.ext e0
  have f1 : e 1 = j := Fin.ext e1
  have hw : ∀ k, View.ld x2 r0_4 (ix3 0 k j) = W (ix3 0 k ⟨1536 + j.val, by omega⟩) := fun k =>
    (ld_cols (n := 1792) (o := 1536) (by omega) x2 _ k j).trans (h2 k _)
  unfold outB proj
  rw [out4_eq, pay3_read, f0, f1, show row x0 r = row X ⟨512 * i.val + r.val, by omega⟩ from funext (h0 r), show row x1 0 = row G 0 from funext h1]
  exact Finset.sum_congr rfl fun k _ => congrArg _ (hw k)

end

/-- The two result arrays. -/
theorem arrA_eq (c : Dev nD) : (dats m 0 c).arrAt 3 cfg0.N = outA (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  refine blockA _ _ _ _ _ _ (blk t) (x_read m c t) (g_read m c t) (w_read m c t) y _ ?_ ?_
  · blk_simp [ix_3 t]
    simp only [blk]
    omega
  · blk_simp [ix_3 t]

theorem arrB_eq (c : Dev nD) : (dats m 0 c).arrAt 4 cfg0.N = outB (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4]
  refine blockB _ _ _ _ _ _ (blk t) (x_read m c t) (g_read m c t) (w_read m c t) y _ ?_ ?_
  · blk_simp [ix_4 t]
    simp only [blk]
    omega
  · blk_simp [ix_4 t]

end Cert.InIdeal.Array

end
-- ==== Proof.InRef.lean ====
/- The input projection's reference: its results are the kernel's arrays. -/
module

public import proofs.«01_k».proof.Proof.FinalRef
public import proofs.«01_k».proof.Proof.InArray
public import proofs.«01_k».proof.Proof.Gen.InReferenceIdeal.Read

@[expose] public section

set_option maxRecDepth 16384

noncomputable section

namespace Cert.InReferenceIdeal.Rows

open Idealize.ShloMosaic Idealize.ShloMosaic.TcCoe Cert.InReferenceIdeal Cert.InReferenceIdeal.Read Cert.InReferenceIdeal.Gen
open Idealize.ShloMosaic.Pointwise
open Cert.FfnRows (row)
open Cert.InIdeal.Array (outA outB proj)

variable (X : Vec Ideal S16384x1024 .f32) (G : Vec Ideal S1x1024 .f32) (W : Vec Ideal S2x1024x3328 .bf16)

/-- The norm is the one of the last feed-forward call. -/
theorem norm_eq : val_main_v11 (F := Ideal) X G = Cert.FinalReferenceIdeal.Read.val_main_v11 (F := Ideal) X G := rfl

theorem weight_read (k : Fin 1024) (j : Fin 3328) : val_main_v14 (F := Ideal) W (ix2 k j) = W (ix3 0 k j) := by
  unfold val_main_v14 val_main_v13 val_main_v12
  pointwise []

theorem product_read (r : Fin 16384) (j : Fin 3328) :
    val_main_v15 (F := Ideal) X G W (ix2 r j) = ∑ k, FfnMath.norm (row X r) (row G 0) k * W (ix3 0 k j) := by
  rw [val_main_v15_apply]
  refine Finset.sum_congr rfl fun k _ => ?_
  have e : lidx_main_v15 (ix2 r j) k = ix2 r k := by funext a; fin_cases a <;> rfl
  have e' : ridx_main_v15 (ix2 r j) k = ix2 k j := by funext a; fin_cases a <;> rfl
  rw [e, e', weight_read, norm_eq, Cert.FinalReferenceIdeal.Rows.normed_read]

theorem resultA_eq : val_main_v17 (F := Ideal) X G W = outA X G W := by
  funext y
  obtain ⟨r, j, rfl⟩ : ∃ (r : Fin 16384) (j : Fin 1536), y = ix2 r j := ⟨y 0, y 1, by funext a; fin_cases a <;> rfl⟩
  have e : idx_main_v16 (ix2 r j) = ix2 r (⟨0 + j.val, by omega⟩ : Fin 3328) := by
    funext a; fin_cases a <;> exact Fin.ext (by simp)
  rw [val_main_v17_apply, val_main_v16_apply, e, product_read]
  rfl

theorem resultB_eq : val_main_v18 (F := Ideal) X G W = outB X G W := by
  funext y
  obtain ⟨r, j, rfl⟩ : ∃ (r : Fin 16384) (j : Fin 1792), y = ix2 r j := ⟨y 0, y 1, by funext a; fin_cases a <;> rfl⟩
  have e : idx_main_v18 (ix2 r j) = ix2 r (⟨1536 + j.val, by omega⟩ : Fin 3328) := by
    funext a; fin_cases a <;> exact Fin.ext (by simp)
  rw [val_main_v18_apply, e, product_read]
  rfl

end Cert.InReferenceIdeal.Rows

end
-- ==== Proof.lean ====
/- The attention: its windowed kernel and the plain masked softmax have the same values where the queries, keys, values and bias
   entries are real numbers. The last feed-forward call, the feed-forward call, the feed-forward call that first adds the
   attention's and the recurrence's projections, and the projection before the attention: each kernel and its plain reference have
   the same values on all extended reals. Every program, the kernels of the three
   recurrent calls included, runs, leaves its arguments alone and ends with every counter at zero. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.FinalReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Rglru
public import proofs.«01_k».proof.Proof.Gen.Rglru.Skeleton
public import proofs.«01_k».proof.Proof.Gen.Rglru.Launch
public import proofs.«01_k».proof.Proof.Gen.Rglru.Points
public import proofs.«01_k».proof.Proof.Gen.Rglru.Frame
public import proofs.«01_k».proof.Proof.Gen.RglruIdeal
public import proofs.«01_k».proof.Proof.Gen.RglruIdeal.Skeleton
public import proofs.«01_k».proof.Proof.Gen.RglruIdeal.Launch
public import proofs.«01_k».proof.Proof.Gen.RglruIdeal.Points
public import proofs.«01_k».proof.Proof.Gen.RglruIdeal.Frame
public import proofs.«01_k».proof.Proof.Gen.RglruIdeal.Value
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Gen.RwkvMix
public import proofs.«01_k».proof.Proof.Gen.RwkvMix.Skeleton
public import proofs.«01_k».proof.Proof.Gen.RwkvMix.Launch
public import proofs.«01_k».proof.Proof.Gen.RwkvMix.Points
public import proofs.«01_k».proof.Proof.Gen.RwkvMix.Frame
public import proofs.«01_k».proof.Proof.Gen.RwkvMixIdeal
public import proofs.«01_k».proof.Proof.Gen.RwkvMixIdeal.Skeleton
public import proofs.«01_k».proof.Proof.Gen.RwkvMixIdeal.Launch
public import proofs.«01_k».proof.Proof.Gen.RwkvMixIdeal.Points
public import proofs.«01_k».proof.Proof.Gen.RwkvMixIdeal.Frame
public import proofs.«01_k».proof.Proof.AttnArray
public import proofs.«01_k».proof.Proof.AttnFinite
public import proofs.«01_k».proof.Proof.FinalArray
public import proofs.«01_k».proof.Proof.FinalRef
public import proofs.«01_k».proof.Proof.FfnArray
public import proofs.«01_k».proof.Proof.FfnRef
public import proofs.«01_k».proof.Proof.MixArray
public import proofs.«01_k».proof.Proof.MixRef
public import proofs.«01_k».proof.Proof.InArray
public import proofs.«01_k».proof.Proof.InRef
public import Idealize.ShloMosaic.Adequacy
public import Idealize.ShloMosaic.Init

@[expose] public section

noncomputable section

namespace Cert.Proof

open Idealize.ShloMosaic Idealize.SL.Sem Cert.Attn

theorem preserves : Cert.preserves_Kernel_KernelIdeal :=
  IdealRules.named_const.statement Cert.KernelIdeal.κ "mask" .f32 0xF149F2CA#32 ⊥ rfl

/-- The reference runs, keeps its arguments, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

section
variable [Cert.Pre_finite.Facts]

/-- The two programs' results, where every argument is real. -/
theorem algebraic : Cert.algebraic_KernelIdeal_ReferenceIdeal_pre_finite := fun m ρ m' ρ' pre hag =>
  ⟨fun c => Cert.KernelIdeal.Attn.outArr (Cert.KernelIdeal.Attn.qkv m c) (Cert.KernelIdeal.Attn.rel m c),
    (θ_run _ _ _).mono (fun _ h c => ⟨(h c).1.trans (Cert.KernelIdeal.Attn.arr_eq m c), (h c).2⟩) (Cert.KernelIdeal.Value.run_blocks m ρ),
    (θ_run _ _ _).mono (fun _ h c => ⟨(h c).1.trans ((Cert.ReferenceIdeal.Read.val_main_v58_eq m' c).trans (by
        rw [(hag c).1, (hag c).2]
        exact (arrays_equal _ _ (real_qkv _ _ (pre c).1) (real_rel _ _ (pre c).2)).symm)), (h c).2⟩)
      (Cert.ReferenceIdeal.Value.run m' ρ')⟩

end

theorem frame_final_reference : Cert.quiescent_FinalReferenceIdeal := fun m ρ _ =>
  (θ_run Cert.FinalReferenceIdeal.defs _ _).mono (fun r h => ⟨fun c => (h c).2, sem_eq_zero_of_no_sems (by decide) r.2⟩)
    (Cert.FinalReferenceIdeal.Value.run m ρ)

theorem frame_ffn_reference : Cert.quiescent_FfnReferenceIdeal := fun m ρ _ =>
  (θ_run Cert.FfnReferenceIdeal.defs _ _).mono (fun r h => ⟨fun c => (h c).2.2.2.2, sem_eq_zero_of_no_sems (by decide) r.2⟩)
    (Cert.FfnReferenceIdeal.Value.run m ρ)

theorem frame_mix_reference : Cert.quiescent_MixReferenceIdeal := fun m ρ _ =>
  (θ_run Cert.MixReferenceIdeal.defs _ _).mono (fun r h => ⟨fun c => (h c).2.2.2.2, sem_eq_zero_of_no_sems (by decide) r.2⟩)
    (Cert.MixReferenceIdeal.Value.run m ρ)

theorem frame_in_reference : Cert.quiescent_InReferenceIdeal := fun m ρ _ =>
  (θ_run Cert.InReferenceIdeal.defs _ _).mono (fun r h => ⟨fun c => (h c).2.2, sem_eq_zero_of_no_sems (by decide) r.2⟩)
    (Cert.InReferenceIdeal.Value.run m ρ)

/-- The last call's result. -/
theorem algebraic_final : Cert.algebraic_FinalIdeal_FinalReferenceIdeal := fun m ρ m' ρ' _ hag =>
  ⟨fun c => (Cert.FinalIdeal.Gen.dats m 0 c).arrAt 6 Cert.FinalIdeal.cfg0.N,
    Cert.FinalIdeal.Value.run_blocks m ρ,
    (θ_run _ _ _).mono (fun _ h c => ⟨(h c).1.trans (by
        obtain ⟨h0, h1, h2, h3, h4, h5⟩ := hag c
        beta_reduce
        rw [Cert.FinalIdeal.Final.arr_eq, ← h0, ← h1, ← h2, ← h3, ← h4, ← h5]
        exact (Cert.FinalReferenceIdeal.Read.val_main_v34_eq m' c).trans (Cert.FinalReferenceIdeal.Rows.result_eq _ _ _ _ _ _)), (h c).2⟩)
      (Cert.FinalReferenceIdeal.Value.run m' ρ')⟩

/-- The feed-forward call's rows and the next call's weights. -/
theorem algebraic_ffn : Cert.algebraic_FfnIdeal_FfnReferenceIdeal := fun m ρ m' ρ' _ hag =>
  ⟨fun c => (Cert.FfnIdeal.Gen.dats m 0 c).arrAt 9 Cert.FfnIdeal.cfg0.N, fun c => (Cert.FfnIdeal.Gen.dats m 0 c).arrAt 10 Cert.FfnIdeal.cfg0.N,
    fun c => (Cert.FfnIdeal.Gen.dats m 0 c).arrAt 11 Cert.FfnIdeal.cfg0.N, fun c => (Cert.FfnIdeal.Gen.dats m 0 c).arrAt 12 Cert.FfnIdeal.cfg0.N,
    Cert.FfnIdeal.Value.run_blocks m ρ,
    (θ_run _ _ _).mono (fun _ h c => by
        obtain ⟨h0, h1, h2, h3, h4, _, h6, h7, h8⟩ := hag c
        beta_reduce
        rw [Cert.FfnIdeal.Array.arr_eq, Cert.FfnIdeal.Array.gate_eq, Cert.FfnIdeal.Array.up_eq, Cert.FfnIdeal.Array.down_eq,
          ← h0, ← h1, ← h2, ← h3, ← h4, ← h6, ← h7, ← h8]
        exact ⟨(h c).1.trans (Cert.FfnReferenceIdeal.Rows.result_eq _ _ _ _ _), (h c).2.1.trans (Cert.FfnReferenceIdeal.Rows.gate_eq _),
          (h c).2.2.1.trans (Cert.FfnReferenceIdeal.Rows.up_eq _), (h c).2.2.2.1.trans (Cert.FfnReferenceIdeal.Rows.down_eq _),
          (h c).2.2.2.2⟩)
      (Cert.FfnReferenceIdeal.Value.run m' ρ')⟩

/-- The mixing call's rows and the next call's weights. -/
theorem algebraic_mix : Cert.algebraic_MixIdeal_MixReferenceIdeal := fun m ρ m' ρ' _ hag =>
  ⟨fun c => (Cert.MixIdeal.Gen.dats m 0 c).arrAt 12 Cert.MixIdeal.cfg0.N, fun c => (Cert.MixIdeal.Gen.dats m 0 c).arrAt 13 Cert.MixIdeal.cfg0.N,
    fun c => (Cert.MixIdeal.Gen.dats m 0 c).arrAt 14 Cert.MixIdeal.cfg0.N, fun c => (Cert.MixIdeal.Gen.dats m 0 c).arrAt 15 Cert.MixIdeal.cfg0.N,
    Cert.MixIdeal.Value.run_blocks m ρ,
    (θ_run _ _ _).mono (fun _ h c => by
        obtain ⟨h0, h1, h2, h3, h4, _, h6, h7, h8, h9, h10, h11⟩ := hag c
        beta_reduce
        rw [Cert.MixIdeal.Array.arr_eq, Cert.MixIdeal.Array.gate_eq, Cert.MixIdeal.Array.up_eq, Cert.MixIdeal.Array.down_eq,
          ← h0, ← h1, ← h2, ← h3, ← h4, ← h6, ← h7, ← h8, ← h9, ← h10, ← h11]
        exact ⟨(h c).1.trans ((Cert.MixReferenceIdeal.Read.val_main_v29_eq m' c).trans (Cert.MixReferenceIdeal.Rows.result_eq _ _ _ _ _ _ _ _)),
          (h c).2.1.trans (Cert.MixReferenceIdeal.Rows.gate_eq _), (h c).2.2.1.trans (Cert.MixReferenceIdeal.Rows.up_eq _),
          (h c).2.2.2.1.trans (Cert.MixReferenceIdeal.Rows.down_eq _), (h c).2.2.2.2⟩)
      (Cert.MixReferenceIdeal.Value.run m' ρ')⟩

/-- The projection's two results. -/
theorem algebraic_in : Cert.algebraic_InIdeal_InReferenceIdeal := fun m ρ m' ρ' _ hag =>
  ⟨fun c => (Cert.InIdeal.Gen.dats m 0 c).arrAt 3 Cert.InIdeal.cfg0.N, fun c => (Cert.InIdeal.Gen.dats m 0 c).arrAt 4 Cert.InIdeal.cfg0.N,
    Cert.InIdeal.Value.run_blocks m ρ,
    (θ_run _ _ _).mono (fun _ h c => by
        obtain ⟨h0, h1, h2⟩ := hag c
        beta_reduce
        rw [Cert.InIdeal.Array.arrA_eq, Cert.InIdeal.Array.arrB_eq, ← h0, ← h1, ← h2]
        exact ⟨(h c).1.trans (Cert.InReferenceIdeal.Rows.resultA_eq _ _ _), (h c).2.1.trans (Cert.InReferenceIdeal.Rows.resultB_eq _ _ _),
          (h c).2.2⟩)
      (Cert.InReferenceIdeal.Value.run m' ρ')⟩

theorem claim : Cert.Claim :=
  ⟨Cert.Kernel.Gen.facts, Cert.KernelIdeal.Gen.facts, Cert.ReferenceIdeal.Gen.facts,
    Cert.Final.Gen.facts, Cert.FinalIdeal.Gen.facts, Cert.FinalReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts,
    Cert.In.Gen.facts, Cert.InIdeal.Gen.facts, Cert.InReferenceIdeal.Gen.facts, Cert.Rglru.Gen.facts, Cert.RglruIdeal.Gen.facts,
    Cert.Rwkv.Gen.facts, Cert.RwkvIdeal.Gen.facts, Cert.RwkvMix.Gen.facts, Cert.RwkvMixIdeal.Gen.facts, finite_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Final.Gen.frame m ρ, fun m ρ _ => Cert.FinalIdeal.Gen.frame m ρ, frame_final_reference,
    fun m ρ _ => Cert.Ffn.Gen.frame m ρ, fun m ρ _ => Cert.FfnIdeal.Gen.frame m ρ, frame_ffn_reference,
    fun m ρ _ => Cert.Mix.Gen.frame m ρ, fun m ρ _ => Cert.MixIdeal.Gen.frame m ρ, frame_mix_reference,
    fun m ρ _ => Cert.In.Gen.frame m ρ, fun m ρ _ => Cert.InIdeal.Gen.frame m ρ, frame_in_reference,
    fun m ρ _ => Cert.Rglru.Gen.frame m ρ, fun m ρ _ => Cert.RglruIdeal.Gen.frame m ρ,
    fun m ρ _ => Cert.Rwkv.Gen.frame m ρ, fun m ρ _ => Cert.RwkvIdeal.Gen.frame m ρ,
    fun m ρ _ => Cert.RwkvMix.Gen.frame m ρ, fun m ρ _ => Cert.RwkvMixIdeal.Gen.frame m ρ,
    preserves, @algebraic finite_facts, trivial, algebraic_final, trivial, algebraic_ffn, trivial, algebraic_mix, trivial, algebraic_in, trivial, trivial, trivial⟩

end Cert.Proof

end
